-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dense_finite [hPre_dense_finite : Cert.Pre_dense_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).1 = (fun _ => 1#1)
    ∧ (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.1 = (fun _ => 1#1)
    ∧ (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.1 = (fun _ => 1#1)
    ∧ (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.1 = (fun _ => 1#1)
    ∧ (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.1 = (fun _ => 1#1)
    ∧ (Cert.Pre_dense_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dense_finite [hPre_dense_finite : Cert.Pre_dense_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).1 = (fun _ => 1#1)
    ∧ (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.1 = (fun _ => 1#1)
    ∧ (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.1 = (fun _ => 1#1)
    ∧ (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.1 = (fun _ => 1#1)
    ∧ (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.1 = (fun _ => 1#1)
    ∧ (Cert.Pre_dense_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_dense_finite [hKernelIdeal : Cert.KernelIdeal.Facts] [hPre_dense_finite : Cert.Pre_dense_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dense_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_dense_finite [hReferenceIdeal : Cert.ReferenceIdeal.Facts] [hPre_dense_finite : Cert.Pre_dense_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dense_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_dense_finite [hKernelIdeal : Cert.KernelIdeal.Facts] [hReferenceIdeal : Cert.ReferenceIdeal.Facts] [hPre_dense_finite : Cert.Pre_dense_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dense_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_dense_finite : Cert.Pre_dense_finite.Facts),
    quiescent_Kernel (hKernel := hKernel)
    ∧ quiescent_KernelIdeal (hKernelIdeal := hKernelIdeal)
    ∧ quiescent_KernelIdeal_pre_dense_finite (hKernelIdeal := hKernelIdeal) (hPre_dense_finite := hPre_dense_finite)
    ∧ quiescent_ReferenceIdeal (hReferenceIdeal := hReferenceIdeal)
    ∧ quiescent_ReferenceIdeal_pre_dense_finite (hReferenceIdeal := hReferenceIdeal) (hPre_dense_finite := hPre_dense_finite)
    ∧ preserves_Kernel_KernelIdeal
    ∧ algebraic_KernelIdeal_ReferenceIdeal_pre_dense_finite (hKernelIdeal := hKernelIdeal) (hReferenceIdeal := hReferenceIdeal) (hPre_dense_finite := hPre_dense_finite)
-- ==== Pre_dense_finite.lean ====
abbrev S4x224x224x3 : Shape := ⟨4, ![4, 224, 224, 3]⟩
abbrev S4x65536x2 : Shape := ⟨3, ![4, 65536, 2]⟩
abbrev S7x7x3x128 : Shape := ⟨4, ![7, 7, 3, 128]⟩
abbrev S128 : Shape := ⟨1, ![128]⟩
abbrev S5x5x128x128 : Shape := ⟨4, ![5, 5, 128, 128]⟩
abbrev S3x3x128x256 : Shape := ⟨4, ![3, 3, 128, 256]⟩
abbrev S256 : Shape := ⟨1, ![256]⟩
abbrev S3x3x256x256 : Shape := ⟨4, ![3, 3, 256, 256]⟩
abbrev S3x3x256x512 : Shape := ⟨4, ![3, 3, 256, 512]⟩
abbrev S512 : Shape := ⟨1, ![512]⟩
abbrev S24576x1024 : Shape := ⟨2, ![24576, 1024]⟩
abbrev S1024 : Shape := ⟨1, ![1024]⟩
abbrev S1024x512 : Shape := ⟨2, ![1024, 512]⟩
abbrev S512x128 : Shape := ⟨2, ![512, 128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x32 : Shape := ⟨2, ![2, 32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S_ : Shape := ⟨0, ![]⟩
abbrev S1x1024 : Shape := ⟨2, ![1, 1024]⟩
abbrev S1x512 : Shape := ⟨2, ![1, 512]⟩
abbrev S1x128 : Shape := ⟨2, ![1, 128]⟩
abbrev S1x32 : Shape := ⟨2, ![1, 32]⟩
abbrev S1x1 : Shape := ⟨2, ![1, 1]⟩

class Facts : Prop where
  bcast_S_S24576x1024 : S_.BroadcastsInDim S24576x1024 (![] : Fin 0 → Fin S24576x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S24576x1024_0_1 : S1x1024.BroadcastsInDim S24576x1024 (![0, 1] : Fin 2 → Fin S24576x1024.rank)
  bcast_S_S1024x512 : S_.BroadcastsInDim S1024x512 (![] : Fin 0 → Fin S1024x512.rank)
  bcast_S_S512 : S_.BroadcastsInDim S512 (![] : Fin 0 → Fin S512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S512x128 : S_.BroadcastsInDim S512x128 (![] : Fin 0 → Fin S512x128.rank)
  bcast_S_S128 : S_.BroadcastsInDim S128 (![] : Fin 0 → Fin S128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  bcast_S_S128x32 : S_.BroadcastsInDim S128x32 (![] : Fin 0 → Fin S128x32.rank)
  bcast_S_S32 : S_.BroadcastsInDim S32 (![] : Fin 0 → Fin S32.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S32x1 : S_.BroadcastsInDim S32x1 (![] : Fin 0 → Fin S32x1.rank)
  bcast_S_S1 : S_.BroadcastsInDim S1 (![] : Fin 0 → Fin S1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)

variable [Facts]

def fn_part2 {F : FTy → Type} [FloatOps F] (main_arg21 : FVec F S32 .f32) (main_arg22 : FVec F S32x1 .f32) (main_arg23 : FVec F S1 .f32) (main_v8 : IVec S24576x1024 1) (main_v17 : IVec S1024x512 1) (main_v26 : IVec S512x128 1) (main_v35 : IVec S128x128 1) (main_v38 : IVec S128x32 1) : IVec S24576x1024 1 × IVec S1024x512 1 × IVec S512x128 1 × IVec S128x128 1 × IVec S128x32 1 × IVec S32x1 1 :=
  let main_v39 : FVec F S32 .f32 := Host.absf main_arg21
  let main_cst_8 : FVec F S_ .f32 := constant S_ .f32 0x7F800000#32
  let main_v40 : FVec F S32 .f32 := broadcastInDim S32 ![] bcast_S_S32 main_cst_8
  let main_v41 : IVec S32 1 := cmpf .olt main_v39 main_v40
  let main_v42 : IVec S1x32 1 := broadcastInDim S1x32 ![1] bcast_S32_S1x32_1 main_v41
  let main_v43 : IVec S128x32 1 := broadcastInDim S128x32 ![0, 1] bcast_S1x32_S128x32_0_1 main_v42
  let main_v44 : IVec S128x32 1 := andi main_v38 main_v43
  let main_v45 : FVec F S32x1 .f32 := Host.absf main_arg22
  let main_cst_9 : FVec F S_ .f32 := constant S_ .f32 0x7F800000#32
  let main_v46 : FVec F S32x1 .f32 := broadcastInDim S32x1 ![] bcast_S_S32x1 main_cst_9
  let main_v47 : IVec S32x1 1 := cmpf .olt main_v45 main_v46
  let main_v48 : FVec F S1 .f32 := Host.absf main_arg23
  let main_cst_10 : FVec F S_ .f32 := constant S_ .f32 0x7F800000#32
  let main_v49 : FVec F S1 .f32 := broadcastInDim S1 ![] bcast_S_S1 main_cst_10
  let main_v50 : IVec S1 1 := cmpf .olt main_v48 main_v49
  let main_v51 : IVec S1x1 1 := broadcastInDim S1x1 ![1] bcast_S1_S1x1_1 main_v50
  let main_v52 : IVec S32x1 1 := broadcastInDim S32x1 ![0, 1] bcast_S1x1_S32x1_0_1 main_v51
  let main_v53 : IVec S32x1 1 := andi main_v47 main_v52
  (main_v8, main_v17, main_v26, main_v35, main_v44, main_v53)

def fn_part1 {F : FTy → Type} [FloatOps F] (main_arg17 : FVec F S128 .f32) (main_arg18 : FVec F S128x128 .f32) (main_arg19 : FVec F S128 .f32) (main_arg20 : FVec F S128x32 .f32) (main_arg21 : FVec F S32 .f32) (main_arg22 : FVec F S32x1 .f32) (main_arg23 : FVec F S1 .f32) (main_v8 : IVec S24576x1024 1) (main_v17 : IVec S1024x512 1) (main_v18 : FVec F S512x128 .f32) (main_cst_3 : FVec F S_ .f32) : IVec S24576x1024 1 × IVec S1024x512 1 × IVec S512x128 1 × IVec S128x128 1 × IVec S128x32 1 × IVec S32x1 1 :=
  let main_v19 : FVec F S512x128 .f32 := broadcastInDim S512x128 ![] bcast_S_S512x128 main_cst_3
  let main_v20 : IVec S512x128 1 := cmpf .olt main_v18 main_v19
  let main_v21 : FVec F S128 .f32 := Host.absf main_arg17
  let main_cst_4 : FVec F S_ .f32 := constant S_ .f32 0x7F800000#32
  let main_v22 : FVec F S128 .f32 := broadcastInDim S128 ![] bcast_S_S128 main_cst_4
  let main_v23 : IVec S128 1 := cmpf .olt main_v21 main_v22
  let main_v24 : IVec S1x128 1 := broadcastInDim S1x128 ![1] bcast_S128_S1x128_1 main_v23
  let main_v25 : IVec S512x128 1 := broadcastInDim S512x128 ![0, 1] bcast_S1x128_S512x128_0_1 main_v24
  let main_v26 : IVec S512x128 1 := andi main_v20 main_v25
  let main_v27 : FVec F S128x128 .f32 := Host.absf main_arg18
  let main_cst_5 : FVec F S_ .f32 := constant S_ .f32 0x7F800000#32
  let main_v28 : FVec F S128x128 .f32 := broadcastInDim S128x128 ![] bcast_S_S128x128 main_cst_5
  let main_v29 : IVec S128x128 1 := cmpf .olt main_v27 main_v28
  let main_v30 : FVec F S128 .f32 := Host.absf main_arg19
  let main_cst_6 : FVec F S_ .f32 := constant S_ .f32 0x7F800000#32
  let main_v31 : FVec F S128 .f32 := broadcastInDim S128 ![] bcast_S_S128 main_cst_6
  let main_v32 : IVec S128 1 := cmpf .olt main_v30 main_v31
  let main_v33 : IVec S1x128 1 := broadcastInDim S1x128 ![1] bcast_S128_S1x128_1 main_v32
  let main_v34 : IVec S128x128 1 := broadcastInDim S128x128 ![0, 1] bcast_S1x128_S128x128_0_1 main_v33
  let main_v35 : IVec S128x128 1 := andi main_v29 main_v34
  let main_v36 : FVec F S128x32 .f32 := Host.absf main_arg20
  let main_cst_7 : FVec F S_ .f32 := constant S_ .f32 0x7F800000#32
  let main_v37 : FVec F S128x32 .f32 := broadcastInDim S128x32 ![] bcast_S_S128x32 main_cst_7
  let main_v38 : IVec S128x32 1 := cmpf .olt main_v36 main_v37
  fn_part2 (F := F) main_arg21 main_arg22 main_arg23 main_v8 main_v17 main_v26 main_v35 main_v38

def fn {F : FTy → Type} [FloatOps F] (main_arg0 : FVec F S4x224x224x3 .f32) (main_arg1 : FVec F S4x65536x2 .f32) (main_arg2 : FVec F S7x7x3x128 .f32) (main_arg3 : FVec F S128 .f32) (main_arg4 : FVec F S5x5x128x128 .f32) (main_arg5 : FVec F S128 .f32) (main_arg6 : FVec F S3x3x128x256 .f32) (main_arg7 : FVec F S256 .f32) (main_arg8 : FVec F S3x3x256x256 .f32) (main_arg9 : FVec F S256 .f32) (main_arg10 : FVec F S3x3x256x512 .f32) (main_arg11 : FVec F S512 .f32) (main_arg12 : FVec F S24576x1024 .f32) (main_arg13 : FVec F S1024 .f32) (main_arg14 : FVec F S1024x512 .f32) (main_arg15 : FVec F S512 .f32) (main_arg16 : FVec F S512x128 .f32) (main_arg17 : FVec F S128 .f32) (main_arg18 : FVec F S128x128 .f32) (main_arg19 : FVec F S128 .f32) (main_arg20 : FVec F S128x32 .f32) (main_arg21 : FVec F S32 .f32) (main_arg22 : FVec F S32x1 .f32) (main_arg23 : FVec F S1 .f32) (main_arg24 : FVec F S2x32 .f32) (main_arg25 : FVec F S32 .f32) (main_arg26 : FVec F S32x64 .f32) (main_arg27 : FVec F S64 .f32) (main_arg28 : FVec F S64x2 .f32) (main_arg29 : FVec F S2 .f32) : IVec S24576x1024 1 × IVec S1024x512 1 × IVec S512x128 1 × IVec S128x128 1 × IVec S128x32 1 × IVec S32x1 1 :=
  let main_v0 : FVec F S24576x1024 .f32 := Host.absf main_arg12
  let main_cst : FVec F S_ .f32 := constant S_ .f32 0x7F800000#32
  let main_v1 : FVec F S24576x1024 .f32 := broadcastInDim S24576x1024 ![] bcast_S_S24576x1024 main_cst
  let main_v2 : IVec S24576x1024 1 := cmpf .olt main_v0 main_v1
  let main_v3 : FVec F S1024 .f32 := Host.absf main_arg13
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : IVec S24576x1024 1 := broadcastInDim S24576x1024 ![0, 1] bcast_S1x1024_S24576x1024_0_1 main_v6
  let main_v8 : IVec S24576x1024 1 := andi main_v2 main_v7
  let main_v9 : FVec F S1024x512 .f32 := Host.absf main_arg14
  let main_cst_1 : FVec F S_ .f32 := constant S_ .f32 0x7F800000#32
  let main_v10 : FVec F S1024x512 .f32 := broadcastInDim S1024x512 ![] bcast_S_S1024x512 main_cst_1
  let main_v11 : IVec S1024x512 1 := cmpf .olt main_v9 main_v10
  let main_v12 : FVec F S512 .f32 := Host.absf main_arg15
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  let main_v15 : IVec S1x512 1 := broadcastInDim S1x512 ![1] bcast_S512_S1x512_1 main_v14
  let main_v16 : IVec S1024x512 1 := broadcastInDim S1024x512 ![0, 1] bcast_S1x512_S1024x512_0_1 main_v15
  let main_v17 : IVec S1024x512 1 := andi main_v11 main_v16
  let main_v18 : FVec F S512x128 .f32 := Host.absf main_arg16
  let main_cst_3 : FVec F S_ .f32 := constant S_ .f32 0x7F800000#32
  fn_part1 (F := F) main_arg17 main_arg18 main_arg19 main_arg20 main_arg21 main_arg22 main_arg23 main_v8 main_v17 main_v18 main_cst_3
-- ==== Kernel.lean ====
abbrev S4x224x224x3 : Shape := ⟨4, ![4, 224, 224, 3]⟩
abbrev S4x65536x2 : Shape := ⟨3, ![4, 65536, 2]⟩
abbrev S7x7x3x128 : Shape := ⟨4, ![7, 7, 3, 128]⟩
abbrev S128 : Shape := ⟨1, ![128]⟩
abbrev S5x5x128x128 : Shape := ⟨4, ![5, 5, 128, 128]⟩
abbrev S3x3x128x256 : Shape := ⟨4, ![3, 3, 128, 256]⟩
abbrev S256 : Shape := ⟨1, ![256]⟩
abbrev S3x3x256x256 : Shape := ⟨4, ![3, 3, 256, 256]⟩
abbrev S3x3x256x512 : Shape := ⟨4, ![3, 3, 256, 512]⟩
abbrev S512 : Shape := ⟨1, ![512]⟩
abbrev S24576x1024 : Shape := ⟨2, ![24576, 1024]⟩
abbrev S1024 : Shape := ⟨1, ![1024]⟩
abbrev S1024x512 : Shape := ⟨2, ![1024, 512]⟩
abbrev S512x128 : Shape := ⟨2, ![512, 128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x32 : Shape := ⟨2, ![2, 32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S262144x2 : Shape := ⟨2, ![262144, 2]⟩
abbrev S2x262144 : Shape := ⟨2, ![2, 262144]⟩
abbrev S32x2 : Shape := ⟨2, ![32, 2]⟩
abbrev S64x32 : Shape := ⟨2, ![64, 32]⟩
abbrev S64x1 : Shape := ⟨2, ![64, 1]⟩
abbrev S64x33 : Shape := ⟨2, ![64, 33]⟩
abbrev S2x64 : Shape := ⟨2, ![2, 64]⟩
abbrev S2x1 : Shape := ⟨2, ![2, 1]⟩
abbrev S2x131072 : Shape := ⟨2, ![2, 131072]⟩
abbrev S1x131072 : Shape := ⟨2, ![1, 131072]⟩
abbrev S32x131072 : Shape := ⟨2, ![32, 131072]⟩
abbrev S33x131072 : Shape := ⟨2, ![33, 131072]⟩
abbrev S64x131072 : Shape := ⟨2, ![64, 131072]⟩

abbrev nBuf : Space → Nat
  | .hbm => 42
  | .vmem => 9
  | .smem => 0
  | _ => 0

abbrev bufTy : (tb : Table) → Fin (tcTables nBuf tb) → BufTy
  | .hbm, ⟨0, _⟩ => ⟨S4x224x224x3, .f32⟩
  | .hbm, ⟨1, _⟩ => ⟨S4x65536x2, .f32⟩
  | .hbm, ⟨2, _⟩ => ⟨S7x7x3x128, .f32⟩
  | .hbm, ⟨3, _⟩ => ⟨S128, .f32⟩
  | .hbm, ⟨4, _⟩ => ⟨S5x5x128x128, .f32⟩
  | .hbm, ⟨5, _⟩ => ⟨S128, .f32⟩
  | .hbm, ⟨6, _⟩ => ⟨S3x3x128x256, .f32⟩
  | .hbm, ⟨7, _⟩ => ⟨S256, .f32⟩
  | .hbm, ⟨8, _⟩ => ⟨S3x3x256x256, .f32⟩
  | .hbm, ⟨9, _⟩ => ⟨S256, .f32⟩
  | .hbm, ⟨10, _⟩ => ⟨S3x3x256x512, .f32⟩
  | .hbm, ⟨11, _⟩ => ⟨S512, .f32⟩
  | .hbm, ⟨12, _⟩ => ⟨S24576x1024, .f32⟩
  | .hbm, ⟨13, _⟩ => ⟨S1024, .f32⟩
  | .hbm, ⟨14, _⟩ => ⟨S1024x512, .f32⟩
  | .hbm, ⟨15, _⟩ => ⟨S512, .f32⟩
  | .hbm, ⟨16, _⟩ => ⟨S512x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x32, .f32⟩
  | .hbm, ⟨21, _⟩ => ⟨S32, .f32⟩
  | .hbm, ⟨22, _⟩ => ⟨S32x1, .f32⟩
  | .hbm, ⟨23, _⟩ => ⟨S1, .f32⟩
  | .hbm, ⟨24, _⟩ => ⟨S2x32, .f32⟩
  | .hbm, ⟨25, _⟩ => ⟨S32, .f32⟩
  | .hbm, ⟨26, _⟩ => ⟨S32x64, .f32⟩
  | .hbm, ⟨27, _⟩ => ⟨S64, .f32⟩
  | .hbm, ⟨28, _⟩ => ⟨S64x2, .f32⟩
  | .hbm, ⟨29, _⟩ => ⟨S2, .f32⟩
  | .hbm, ⟨30, _⟩ => ⟨S262144x2, .f32⟩
  | .hbm, ⟨31, _⟩ => ⟨S2x262144, .f32⟩
  | .hbm, ⟨32, _⟩ => ⟨S32x2, .f32⟩
  | .hbm, ⟨33, _⟩ => ⟨S32x1, .f32⟩
  | .hbm, ⟨34, _⟩ => ⟨S64x32, .f32⟩
  | .hbm, ⟨35, _⟩ => ⟨S64x1, .f32⟩
  | .hbm, ⟨36, _⟩ => ⟨S64x33, .f32⟩
  | .hbm, ⟨37, _⟩ => ⟨S2x64, .f32⟩
  | .hbm, ⟨38, _⟩ => ⟨S2x1, .f32⟩
  | .hbm, ⟨39, _⟩ => ⟨S2x262144, .f32⟩
  | .hbm, ⟨40, _⟩ => ⟨S262144x2, .f32⟩
  | .hbm, ⟨41, _⟩ => ⟨S4x65536x2, .f32⟩
  | .local _ .vmem, ⟨0, _⟩ => ⟨S2x131072, .f32⟩
  | .local _ .vmem, ⟨1, _⟩ => ⟨S2x131072, .f32⟩
  | .local _ .vmem, ⟨2, _⟩ => ⟨S32x2, .f32⟩
  | .local _ .vmem, ⟨3, _⟩ => ⟨S32x1, .f32⟩
  | .local _ .vmem, ⟨4, _⟩ => ⟨S64x33, .f32⟩
  | .local _ .vmem, ⟨5, _⟩ => ⟨S2x64, .f32⟩
  | .local _ .vmem, ⟨6, _⟩ => ⟨S2x1, .f32⟩
  | .local _ .vmem, ⟨7, _⟩ => ⟨S2x131072, .f32⟩
  | .local _ .vmem, ⟨8, _⟩ => ⟨S2x131072, .f32⟩
  | _, _ => ⟨S4x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x224x224x3 : Shape := ⟨4, ![4, 224, 224, 3]⟩
abbrev S4x65536x2 : Shape := ⟨3, ![4, 65536, 2]⟩
abbrev S7x7x3x128 : Shape := ⟨4, ![7, 7, 3, 128]⟩
abbrev S128 : Shape := ⟨1, ![128]⟩
abbrev S5x5x128x128 : Shape := ⟨4, ![5, 5, 128, 128]⟩
abbrev S3x3x128x256 : Shape := ⟨4, ![3, 3, 128, 256]⟩
abbrev S256 : Shape := ⟨1, ![256]⟩
abbrev S3x3x256x256 : Shape := ⟨4, ![3, 3, 256, 256]⟩
abbrev S3x3x256x512 : Shape := ⟨4, ![3, 3, 256, 512]⟩
abbrev S512 : Shape := ⟨1, ![512]⟩
abbrev S24576x1024 : Shape := ⟨2, ![24576, 1024]⟩
abbrev S1024 : Shape := ⟨1, ![1024]⟩
abbrev S1024x512 : Shape := ⟨2, ![1024, 512]⟩
abbrev S512x128 : Shape := ⟨2, ![512, 128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x32 : Shape := ⟨2, ![2, 32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S73 : Shape := ⟨1, ![73]⟩
abbrev S73x1 : Shape := ⟨2, ![73, 1]⟩
abbrev S_ : Shape := ⟨0, ![]⟩
abbrev S7 : Shape := ⟨1, ![7]⟩
abbrev S1x7 : Shape := ⟨2, ![1, 7]⟩
abbrev S73x7 : Shape := ⟨2, ![73, 7]⟩
abbrev S73x7x1 : Shape := ⟨3, ![73, 7, 1]⟩
abbrev S4x73x7x224x3 : Shape := ⟨5, ![4, 73, 7, 224, 3]⟩
abbrev S4x73x7x73x7x3 : Shape := ⟨6, ![4, 73, 7, 73, 7, 3]⟩
abbrev S4x73x73x7x7x3 : Shape := ⟨6, ![4, 73, 73, 7, 7, 3]⟩
abbrev S21316x147 : Shape := ⟨2, ![21316, 147]⟩
abbrev S147x128 : Shape := ⟨2, ![147, 128]⟩
abbrev S21316x128 : Shape := ⟨2, ![21316, 128]⟩
abbrev S4x73x73x128 : Shape := ⟨4, ![4, 73, 73, 128]⟩
abbrev S1x1x1x128 : Shape := ⟨4, ![1, 1, 1, 128]⟩
abbrev S69 : Shape := ⟨1, ![69]⟩
abbrev S69x1 : Shape := ⟨2, ![69, 1]⟩
abbrev S5 : Shape := ⟨1, ![5]⟩
abbrev S1x5 : Shape := ⟨2, ![1, 5]⟩
abbrev S69x5 : Shape := ⟨2, ![69, 5]⟩
abbrev S35 : Shape := ⟨1, ![35]⟩
abbrev S35x1 : Shape := ⟨2, ![35, 1]⟩
abbrev S35x5 : Shape := ⟨2, ![35, 5]⟩
abbrev S69x5x1 : Shape := ⟨3, ![69, 5, 1]⟩
abbrev S4x69x5x73x128 : Shape := ⟨5, ![4, 69, 5, 73, 128]⟩
abbrev S35x5x1 : Shape := ⟨3, ![35, 5, 1]⟩
abbrev S4x69x5x35x5x128 : Shape := ⟨6, ![4, 69, 5, 35, 5, 128]⟩
abbrev S4x69x35x5x5x128 : Shape := ⟨6, ![4, 69, 35, 5, 5, 128]⟩
abbrev S9660x3200 : Shape := ⟨2, ![9660, 3200]⟩
abbrev S3200x128 : Shape := ⟨2, ![3200, 128]⟩
abbrev S9660x128 : Shape := ⟨2, ![9660, 128]⟩
abbrev S4x69x35x128 : Shape := ⟨4, ![4, 69, 35, 128]⟩
abbrev S67 : Shape := ⟨1, ![67]⟩
abbrev S67x1 : Shape := ⟨2, ![67, 1]⟩
abbrev S3 : Shape := ⟨1, ![3]⟩
abbrev S1x3 : Shape := ⟨2, ![1, 3]⟩
abbrev S67x3 : Shape := ⟨2, ![67, 3]⟩
abbrev S17 : Shape := ⟨1, ![17]⟩
abbrev S17x1 : Shape := ⟨2, ![17, 1]⟩
abbrev S17x3 : Shape := ⟨2, ![17, 3]⟩
abbrev S67x3x1 : Shape := ⟨3, ![67, 3, 1]⟩
abbrev S4x67x3x35x128 : Shape := ⟨5, ![4, 67, 3, 35, 128]⟩
abbrev S17x3x1 : Shape := ⟨3, ![17, 3, 1]⟩
abbrev S4x67x3x17x3x128 : Shape := ⟨6, ![4, 67, 3, 17, 3, 128]⟩
abbrev S4x67x17x3x3x128 : Shape := ⟨6, ![4, 67, 17, 3, 3, 128]⟩
abbrev S4556x1152 : Shape := ⟨2, ![4556, 1152]⟩
abbrev S1152x256 : Shape := ⟨2, ![1152, 256]⟩
abbrev S4556x256 : Shape := ⟨2, ![4556, 256]⟩
abbrev S4x67x17x256 : Shape := ⟨4, ![4, 67, 17, 256]⟩
abbrev S1x1x1x256 : Shape := ⟨4, ![1, 1, 1, 256]⟩
abbrev S33 : Shape := ⟨1, ![33]⟩
abbrev S33x1 : Shape := ⟨2, ![33, 1]⟩
abbrev S33x3 : Shape := ⟨2, ![33, 3]⟩
abbrev S8 : Shape := ⟨1, ![8]⟩
abbrev S8x1 : Shape := ⟨2, ![8, 1]⟩
abbrev S8x3 : Shape := ⟨2, ![8, 3]⟩
abbrev S33x3x1 : Shape := ⟨3, ![33, 3, 1]⟩
abbrev S4x33x3x17x256 : Shape := ⟨5, ![4, 33, 3, 17, 256]⟩
abbrev S8x3x1 : Shape := ⟨3, ![8, 3, 1]⟩
abbrev S4x33x3x8x3x256 : Shape := ⟨6, ![4, 33, 3, 8, 3, 256]⟩
abbrev S4x33x8x3x3x256 : Shape := ⟨6, ![4, 33, 8, 3, 3, 256]⟩
abbrev S1056x2304 : Shape := ⟨2, ![1056, 2304]⟩
abbrev S2304x256 : Shape := ⟨2, ![2304, 256]⟩
abbrev S1056x256 : Shape := ⟨2, ![1056, 256]⟩
abbrev S4x33x8x256 : Shape := ⟨4, ![4, 33, 8, 256]⟩
abbrev S16 : Shape := ⟨1, ![16]⟩
abbrev S16x1 : Shape := ⟨2, ![16, 1]⟩
abbrev S16x3 : Shape := ⟨2, ![16, 3]⟩
abbrev S3x1 : Shape := ⟨2, ![3, 1]⟩
abbrev S3x3 : Shape := ⟨2, ![3, 3]⟩
abbrev S16x3x1 : Shape := ⟨3, ![16, 3, 1]⟩
abbrev S4x16x3x8x256 : Shape := ⟨5, ![4, 16, 3, 8, 256]⟩
abbrev S3x3x1 : Shape := ⟨3, ![3, 3, 1]⟩
abbrev S4x16x3x3x3x256 : Shape := ⟨6, ![4, 16, 3, 3, 3, 256]⟩
abbrev S192x2304 : Shape := ⟨2, ![192, 2304]⟩
abbrev S2304x512 : Shape := ⟨2, ![2304, 512]⟩
abbrev S192x512 : Shape := ⟨2, ![192, 512]⟩
abbrev S4x16x3x512 : Shape := ⟨4, ![4, 16, 3, 512]⟩
abbrev S1x1x1x512 : Shape := ⟨4, ![1, 1, 1, 512]⟩
abbrev S4x24576 : Shape := ⟨2, ![4, 24576]⟩
abbrev S4x1x24576 : Shape := ⟨3, ![4, 1, 24576]⟩
abbrev S4x1x8x24576 : Shape := ⟨4, ![4, 1, 8, 24576]⟩
abbrev S4x8x24576 : Shape := ⟨3, ![4, 8, 24576]⟩
abbrev S32x24576 : Shape := ⟨2, ![32, 24576]⟩
abbrev S32x1024 : Shape := ⟨2, ![32, 1024]⟩
abbrev S1x1024 : Shape := ⟨2, ![1, 1024]⟩
abbrev S32x512 : Shape := ⟨2, ![32, 512]⟩
abbrev S1x512 : Shape := ⟨2, ![1, 512]⟩
abbrev S32x128 : Shape := ⟨2, ![32, 128]⟩
abbrev S1x128 : Shape := ⟨2, ![1, 128]⟩
abbrev S4x8x128 : Shape := ⟨3, ![4, 8, 128]⟩
abbrev S4x128 : Shape := ⟨2, ![4, 128]⟩
abbrev S4x1x128 : Shape := ⟨3, ![4, 1, 128]⟩
abbrev S4x1x65536x128 : Shape := ⟨4, ![4, 1, 65536, 128]⟩
abbrev S4x65536x128 : Shape := ⟨3, ![4, 65536, 128]⟩
abbrev S262144x128 : Shape := ⟨2, ![262144, 128]⟩
abbrev S262144x32 : Shape := ⟨2, ![262144, 32]⟩
abbrev S1x32 : Shape := ⟨2, ![1, 32]⟩
abbrev S262144x1 : Shape := ⟨2, ![262144, 1]⟩
abbrev S1x1 : Shape := ⟨2, ![1, 1]⟩
abbrev S4x65536 : Shape := ⟨2, ![4, 65536]⟩
abbrev S4 : Shape := ⟨1, ![4]⟩
abbrev S4x1 : Shape := ⟨2, ![4, 1]⟩
abbrev S262144x2 : Shape := ⟨2, ![262144, 2]⟩
abbrev S262144x64 : Shape := ⟨2, ![262144, 64]⟩
abbrev S1x64 : Shape := ⟨2, ![1, 64]⟩
abbrev S1x2 : Shape := ⟨2, ![1, 2]⟩
abbrev S65536 : Shape := ⟨1, ![65536]⟩
abbrev S4x1x65536 : Shape := ⟨3, ![4, 1, 65536]⟩
abbrev S4x65536x1 : Shape := ⟨3, ![4, 65536, 1]⟩
abbrev S4x65536x65536 : Shape := ⟨3, ![4, 65536, 65536]⟩

abbrev nBuf : Space → Nat
  | .hbm => 524
  | .vmem => 0
  | .smem => 0
  | _ => 0

abbrev hbmTy0_0 (i : Nat) : BufTy := match i % 128 with
  | 0 => ⟨S4x224x224x3, .f32⟩
  | 1 => ⟨S4x65536x2, .f32⟩
  | 2 => ⟨S7x7x3x128, .f32⟩
  | 3 => ⟨S128, .f32⟩
  | 4 => ⟨S5x5x128x128, .f32⟩
  | 5 => ⟨S128, .f32⟩
  | 6 => ⟨S3x3x128x256, .f32⟩
  | 7 => ⟨S256, .f32⟩
  | 8 => ⟨S3x3x256x256, .f32⟩
  | 9 => ⟨S256, .f32⟩
  | 10 => ⟨S3x3x256x512, .f32⟩
  | 11 => ⟨S512, .f32⟩
  | 12 => ⟨S24576x1024, .f32⟩
  | 13 => ⟨S1024, .f32⟩
  | 14 => ⟨S1024x512, .f32⟩
  | 15 => ⟨S512, .f32⟩
  | 16 => ⟨S512x128, .f32⟩
  | 17 => ⟨S128, .f32⟩
  | 18 => ⟨S128x128, .f32⟩
  | 19 => ⟨S128, .f32⟩
  | 20 => ⟨S128x32, .f32⟩
  | 21 => ⟨S32, .f32⟩
  | 22 => ⟨S32x1, .f32⟩
  | 23 => ⟨S1, .f32⟩
  | 24 => ⟨S2x32, .f32⟩
  | 25 => ⟨S32, .f32⟩
  | 26 => ⟨S32x64, .f32⟩
  | 27 => ⟨S64, .f32⟩
  | 28 => ⟨S64x2, .f32⟩
  | 29 => ⟨S2, .f32⟩
  | 30 => ⟨S73, .i32⟩
  | 31 => ⟨S73x1, .i32⟩
  | 32 => ⟨S_, .i32⟩
  | 33 => ⟨S73x1, .i32⟩
  | 34 => ⟨S73x1, .i32⟩
  | 35 => ⟨S7, .i32⟩
  | 36 => ⟨S1x7, .i32⟩
  | 37 => ⟨S73x7, .i32⟩
  | 38 => ⟨S73x7, .i32⟩
  | 39 => ⟨S73x7, .i32⟩
  | 40 => ⟨S73, .i32⟩
  | 41 => ⟨S73x1, .i32⟩
  | 42 => ⟨S_, .i32⟩
  | 43 => ⟨S73x1, .i32⟩
  | 44 => ⟨S73x1, .i32⟩
  | 45 => ⟨S7, .i32⟩
  | 46 => ⟨S1x7, .i32⟩
  | 47 => ⟨S73x7, .i32⟩
  | 48 => ⟨S73x7, .i32⟩
  | 49 => ⟨S73x7, .i32⟩
  | 50 => ⟨S73x7x1, .i32⟩
  | 51 => ⟨S4x73x7x224x3, .f32⟩
  | 52 => ⟨S73x7x1, .i32⟩
  | 53 => ⟨S4x73x7x73x7x3, .f32⟩
  | 54 => ⟨S4x73x73x7x7x3, .f32⟩
  | 55 => ⟨S21316x147, .f32⟩
  | 56 => ⟨S147x128, .f32⟩
  | 57 => ⟨S21316x128, .f32⟩
  | 58 => ⟨S4x73x73x128, .f32⟩
  | 59 => ⟨S1x1x1x128, .f32⟩
  | 60 => ⟨S4x73x73x128, .f32⟩
  | 61 => ⟨S4x73x73x128, .f32⟩
  | 62 => ⟨S_, .f32⟩
  | 63 => ⟨S4x73x73x128, .f32⟩
  | 64 => ⟨S4x73x73x128, .f32⟩
  | 65 => ⟨S_, .f32⟩
  | 66 => ⟨S128, .f32⟩
  | 67 => ⟨S1x1x1x128, .f32⟩
  | 68 => ⟨S_, .f32⟩
  | 69 => ⟨S1x1x1x128, .f32⟩
  | 70 => ⟨S1x1x1x128, .f32⟩
  | 71 => ⟨S_, .i32⟩
  | 72 => ⟨S_, .f32⟩
  | 73 => ⟨S128, .f32⟩
  | 74 => ⟨S1x1x1x128, .f32⟩
  | 75 => ⟨S_, .f32⟩
  | 76 => ⟨S1x1x1x128, .f32⟩
  | 77 => ⟨S1x1x1x128, .f32⟩
  | 78 => ⟨S4x73x73x128, .f32⟩
  | 79 => ⟨S4x73x73x128, .f32⟩
  | 80 => ⟨S4x73x73x128, .f32⟩
  | 81 => ⟨S_, .f32⟩
  | 82 => ⟨S_, .f32⟩
  | 83 => ⟨S_, .f32⟩
  | 84 => ⟨S_, .f32⟩
  | 85 => ⟨S128, .f32⟩
  | 86 => ⟨S1x1x1x128, .f32⟩
  | 87 => ⟨S1x1x1x128, .f32⟩
  | 88 => ⟨S1x1x1x128, .f32⟩
  | 89 => ⟨S_, .f32⟩
  | 90 => ⟨S_, .i1⟩
  | 91 => ⟨S_, .f32⟩
  | 92 => ⟨S_, .f32⟩
  | 93 => ⟨S1x1x1x128, .f32⟩
  | 94 => ⟨S1x1x1x128, .f32⟩
  | 95 => ⟨S4x73x73x128, .f32⟩
  | 96 => ⟨S4x73x73x128, .f32⟩
  | 97 => ⟨S_, .f32⟩
  | 98 => ⟨S1x1x1x128, .f32⟩
  | 99 => ⟨S1x1x1x128, .f32⟩
  | 100 => ⟨S1x1x1x128, .f32⟩
  | 101 => ⟨S4x73x73x128, .f32⟩
  | 102 => ⟨S4x73x73x128, .f32⟩
  | 103 => ⟨S69, .i32⟩
  | 104 => ⟨S69x1, .i32⟩
  | 105 => ⟨S_, .i32⟩
  | 106 => ⟨S69x1, .i32⟩
  | 107 => ⟨S69x1, .i32⟩
  | 108 => ⟨S5, .i32⟩
  | 109 => ⟨S1x5, .i32⟩
  | 110 => ⟨S69x5, .i32⟩
  | 111 => ⟨S69x5, .i32⟩
  | 112 => ⟨S69x5, .i32⟩
  | 113 => ⟨S35, .i32⟩
  | 114 => ⟨S35x1, .i32⟩
  | 115 => ⟨S_, .i32⟩
  | 116 => ⟨S35x1, .i32⟩
  | 117 => ⟨S35x1, .i32⟩
  | 118 => ⟨S5, .i32⟩
  | 119 => ⟨S1x5, .i32⟩
  | 120 => ⟨S35x5, .i32⟩
  | 121 => ⟨S35x5, .i32⟩
  | 122 => ⟨S35x5, .i32⟩
  | 123 => ⟨S69x5x1, .i32⟩
  | 124 => ⟨S4x69x5x73x128, .f32⟩
  | 125 => ⟨S35x5x1, .i32⟩
  | 126 => ⟨S4x69x5x35x5x128, .f32⟩
  | 127 => ⟨S4x69x35x5x5x128, .f32⟩
  | _ => ⟨S4x224x224x3, .f32⟩

abbrev hbmTy0_1 (i : Nat) : BufTy := match i % 128 with
  | 0 => ⟨S9660x3200, .f32⟩
  | 1 => ⟨S3200x128, .f32⟩
  | 2 => ⟨S9660x128, .f32⟩
  | 3 => ⟨S4x69x35x128, .f32⟩
  | 4 => ⟨S1x1x1x128, .f32⟩
  | 5 => ⟨S4x69x35x128, .f32⟩
  | 6 => ⟨S4x69x35x128, .f32⟩
  | 7 => ⟨S_, .f32⟩
  | 8 => ⟨S4x69x35x128, .f32⟩
  | 9 => ⟨S4x69x35x128, .f32⟩
  | 10 => ⟨S_, .f32⟩
  | 11 => ⟨S128, .f32⟩
  | 12 => ⟨S1x1x1x128, .f32⟩
  | 13 => ⟨S_, .f32⟩
  | 14 => ⟨S1x1x1x128, .f32⟩
  | 15 => ⟨S1x1x1x128, .f32⟩
  | 16 => ⟨S_, .i32⟩
  | 17 => ⟨S_, .f32⟩
  | 18 => ⟨S128, .f32⟩
  | 19 => ⟨S1x1x1x128, .f32⟩
  | 20 => ⟨S_, .f32⟩
  | 21 => ⟨S1x1x1x128, .f32⟩
  | 22 => ⟨S1x1x1x128, .f32⟩
  | 23 => ⟨S4x69x35x128, .f32⟩
  | 24 => ⟨S4x69x35x128, .f32⟩
  | 25 => ⟨S4x69x35x128, .f32⟩
  | 26 => ⟨S_, .f32⟩
  | 27 => ⟨S_, .f32⟩
  | 28 => ⟨S_, .f32⟩
  | 29 => ⟨S_, .f32⟩
  | 30 => ⟨S128, .f32⟩
  | 31 => ⟨S1x1x1x128, .f32⟩
  | 32 => ⟨S1x1x1x128, .f32⟩
  | 33 => ⟨S1x1x1x128, .f32⟩
  | 34 => ⟨S_, .f32⟩
  | 35 => ⟨S_, .i1⟩
  | 36 => ⟨S_, .f32⟩
  | 37 => ⟨S_, .f32⟩
  | 38 => ⟨S1x1x1x128, .f32⟩
  | 39 => ⟨S1x1x1x128, .f32⟩
  | 40 => ⟨S4x69x35x128, .f32⟩
  | 41 => ⟨S4x69x35x128, .f32⟩
  | 42 => ⟨S_, .f32⟩
  | 43 => ⟨S1x1x1x128, .f32⟩
  | 44 => ⟨S1x1x1x128, .f32⟩
  | 45 => ⟨S1x1x1x128, .f32⟩
  | 46 => ⟨S4x69x35x128, .f32⟩
  | 47 => ⟨S4x69x35x128, .f32⟩
  | 48 => ⟨S67, .i32⟩
  | 49 => ⟨S67x1, .i32⟩
  | 50 => ⟨S_, .i32⟩
  | 51 => ⟨S67x1, .i32⟩
  | 52 => ⟨S67x1, .i32⟩
  | 53 => ⟨S3, .i32⟩
  | 54 => ⟨S1x3, .i32⟩
  | 55 => ⟨S67x3, .i32⟩
  | 56 => ⟨S67x3, .i32⟩
  | 57 => ⟨S67x3, .i32⟩
  | 58 => ⟨S17, .i32⟩
  | 59 => ⟨S17x1, .i32⟩
  | 60 => ⟨S_, .i32⟩
  | 61 => ⟨S17x1, .i32⟩
  | 62 => ⟨S17x1, .i32⟩
  | 63 => ⟨S3, .i32⟩
  | 64 => ⟨S1x3, .i32⟩
  | 65 => ⟨S17x3, .i32⟩
  | 66 => ⟨S17x3, .i32⟩
  | 67 => ⟨S17x3, .i32⟩
  | 68 => ⟨S67x3x1, .i32⟩
  | 69 => ⟨S4x67x3x35x128, .f32⟩
  | 70 => ⟨S17x3x1, .i32⟩
  | 71 => ⟨S4x67x3x17x3x128, .f32⟩
  | 72 => ⟨S4x67x17x3x3x128, .f32⟩
  | 73 => ⟨S4556x1152, .f32⟩
  | 74 => ⟨S1152x256, .f32⟩
  | 75 => ⟨S4556x256, .f32⟩
  | 76 => ⟨S4x67x17x256, .f32⟩
  | 77 => ⟨S1x1x1x256, .f32⟩
  | 78 => ⟨S4x67x17x256, .f32⟩
  | 79 => ⟨S4x67x17x256, .f32⟩
  | 80 => ⟨S_, .f32⟩
  | 81 => ⟨S4x67x17x256, .f32⟩
  | 82 => ⟨S4x67x17x256, .f32⟩
  | 83 => ⟨S_, .f32⟩
  | 84 => ⟨S256, .f32⟩
  | 85 => ⟨S1x1x1x256, .f32⟩
  | 86 => ⟨S_, .f32⟩
  | 87 => ⟨S1x1x1x256, .f32⟩
  | 88 => ⟨S1x1x1x256, .f32⟩
  | 89 => ⟨S_, .i32⟩
  | 90 => ⟨S_, .f32⟩
  | 91 => ⟨S256, .f32⟩
  | 92 => ⟨S1x1x1x256, .f32⟩
  | 93 => ⟨S_, .f32⟩
  | 94 => ⟨S1x1x1x256, .f32⟩
  | 95 => ⟨S1x1x1x256, .f32⟩
  | 96 => ⟨S4x67x17x256, .f32⟩
  | 97 => ⟨S4x67x17x256, .f32⟩
  | 98 => ⟨S4x67x17x256, .f32⟩
  | 99 => ⟨S_, .f32⟩
  | 100 => ⟨S_, .f32⟩
  | 101 => ⟨S_, .f32⟩
  | 102 => ⟨S_, .f32⟩
  | 103 => ⟨S256, .f32⟩
  | 104 => ⟨S1x1x1x256, .f32⟩
  | 105 => ⟨S1x1x1x256, .f32⟩
  | 106 => ⟨S1x1x1x256, .f32⟩
  | 107 => ⟨S_, .f32⟩
  | 108 => ⟨S_, .i1⟩
  | 109 => ⟨S_, .f32⟩
  | 110 => ⟨S_, .f32⟩
  | 111 => ⟨S1x1x1x256, .f32⟩
  | 112 => ⟨S1x1x1x256, .f32⟩
  | 113 => ⟨S4x67x17x256, .f32⟩
  | 114 => ⟨S4x67x17x256, .f32⟩
  | 115 => ⟨S_, .f32⟩
  | 116 => ⟨S1x1x1x256, .f32⟩
  | 117 => ⟨S1x1x1x256, .f32⟩
  | 118 => ⟨S1x1x1x256, .f32⟩
  | 119 => ⟨S4x67x17x256, .f32⟩
  | 120 => ⟨S4x67x17x256, .f32⟩
  | 121 => ⟨S33, .i32⟩
  | 122 => ⟨S33x1, .i32⟩
  | 123 => ⟨S_, .i32⟩
  | 124 => ⟨S33x1, .i32⟩
  | 125 => ⟨S33x1, .i32⟩
  | 126 => ⟨S3, .i32⟩
  | 127 => ⟨S1x3, .i32⟩
  | _ => ⟨S4x224x224x3, .f32⟩

abbrev hbmTy0_2 (i : Nat) : BufTy := match i % 128 with
  | 0 => ⟨S33x3, .i32⟩
  | 1 => ⟨S33x3, .i32⟩
  | 2 => ⟨S33x3, .i32⟩
  | 3 => ⟨S8, .i32⟩
  | 4 => ⟨S8x1, .i32⟩
  | 5 => ⟨S_, .i32⟩
  | 6 => ⟨S8x1, .i32⟩
  | 7 => ⟨S8x1, .i32⟩
  | 8 => ⟨S3, .i32⟩
  | 9 => ⟨S1x3, .i32⟩
  | 10 => ⟨S8x3, .i32⟩
  | 11 => ⟨S8x3, .i32⟩
  | 12 => ⟨S8x3, .i32⟩
  | 13 => ⟨S33x3x1, .i32⟩
  | 14 => ⟨S4x33x3x17x256, .f32⟩
  | 15 => ⟨S8x3x1, .i32⟩
  | 16 => ⟨S4x33x3x8x3x256, .f32⟩
  | 17 => ⟨S4x33x8x3x3x256, .f32⟩
  | 18 => ⟨S1056x2304, .f32⟩
  | 19 => ⟨S2304x256, .f32⟩
  | 20 => ⟨S1056x256, .f32⟩
  | 21 => ⟨S4x33x8x256, .f32⟩
  | 22 => ⟨S1x1x1x256, .f32⟩
  | 23 => ⟨S4x33x8x256, .f32⟩
  | 24 => ⟨S4x33x8x256, .f32⟩
  | 25 => ⟨S_, .f32⟩
  | 26 => ⟨S4x33x8x256, .f32⟩
  | 27 => ⟨S4x33x8x256, .f32⟩
  | 28 => ⟨S_, .f32⟩
  | 29 => ⟨S256, .f32⟩
  | 30 => ⟨S1x1x1x256, .f32⟩
  | 31 => ⟨S_, .f32⟩
  | 32 => ⟨S1x1x1x256, .f32⟩
  | 33 => ⟨S1x1x1x256, .f32⟩
  | 34 => ⟨S_, .i32⟩
  | 35 => ⟨S_, .f32⟩
  | 36 => ⟨S256, .f32⟩
  | 37 => ⟨S1x1x1x256, .f32⟩
  | 38 => ⟨S_, .f32⟩
  | 39 => ⟨S1x1x1x256, .f32⟩
  | 40 => ⟨S1x1x1x256, .f32⟩
  | 41 => ⟨S4x33x8x256, .f32⟩
  | 42 => ⟨S4x33x8x256, .f32⟩
  | 43 => ⟨S4x33x8x256, .f32⟩
  | 44 => ⟨S_, .f32⟩
  | 45 => ⟨S_, .f32⟩
  | 46 => ⟨S_, .f32⟩
  | 47 => ⟨S_, .f32⟩
  | 48 => ⟨S256, .f32⟩
  | 49 => ⟨S1x1x1x256, .f32⟩
  | 50 => ⟨S1x1x1x256, .f32⟩
  | 51 => ⟨S1x1x1x256, .f32⟩
  | 52 => ⟨S_, .f32⟩
  | 53 => ⟨S_, .i1⟩
  | 54 => ⟨S_, .f32⟩
  | 55 => ⟨S_, .f32⟩
  | 56 => ⟨S1x1x1x256, .f32⟩
  | 57 => ⟨S1x1x1x256, .f32⟩
  | 58 => ⟨S4x33x8x256, .f32⟩
  | 59 => ⟨S4x33x8x256, .f32⟩
  | 60 => ⟨S_, .f32⟩
  | 61 => ⟨S1x1x1x256, .f32⟩
  | 62 => ⟨S1x1x1x256, .f32⟩
  | 63 => ⟨S1x1x1x256, .f32⟩
  | 64 => ⟨S4x33x8x256, .f32⟩
  | 65 => ⟨S4x33x8x256, .f32⟩
  | 66 => ⟨S16, .i32⟩
  | 67 => ⟨S16x1, .i32⟩
  | 68 => ⟨S_, .i32⟩
  | 69 => ⟨S16x1, .i32⟩
  | 70 => ⟨S16x1, .i32⟩
  | 71 => ⟨S3, .i32⟩
  | 72 => ⟨S1x3, .i32⟩
  | 73 => ⟨S16x3, .i32⟩
  | 74 => ⟨S16x3, .i32⟩
  | 75 => ⟨S16x3, .i32⟩
  | 76 => ⟨S3, .i32⟩
  | 77 => ⟨S3x1, .i32⟩
  | 78 => ⟨S_, .i32⟩
  | 79 => ⟨S3x1, .i32⟩
  | 80 => ⟨S3x1, .i32⟩
  | 81 => ⟨S3, .i32⟩
  | 82 => ⟨S1x3, .i32⟩
  | 83 => ⟨S3x3, .i32⟩
  | 84 => ⟨S3x3, .i32⟩
  | 85 => ⟨S3x3, .i32⟩
  | 86 => ⟨S16x3x1, .i32⟩
  | 87 => ⟨S4x16x3x8x256, .f32⟩
  | 88 => ⟨S3x3x1, .i32⟩
  | 89 => ⟨S4x16x3x3x3x256, .f32⟩
  | 90 => ⟨S4x16x3x3x3x256, .f32⟩
  | 91 => ⟨S192x2304, .f32⟩
  | 92 => ⟨S2304x512, .f32⟩
  | 93 => ⟨S192x512, .f32⟩
  | 94 => ⟨S4x16x3x512, .f32⟩
  | 95 => ⟨S1x1x1x512, .f32⟩
  | 96 => ⟨S4x16x3x512, .f32⟩
  | 97 => ⟨S4x16x3x512, .f32⟩
  | 98 => ⟨S_, .f32⟩
  | 99 => ⟨S4x16x3x512, .f32⟩
  | 100 => ⟨S4x16x3x512, .f32⟩
  | 101 => ⟨S_, .f32⟩
  | 102 => ⟨S512, .f32⟩
  | 103 => ⟨S1x1x1x512, .f32⟩
  | 104 => ⟨S_, .f32⟩
  | 105 => ⟨S1x1x1x512, .f32⟩
  | 106 => ⟨S1x1x1x512, .f32⟩
  | 107 => ⟨S_, .i32⟩
  | 108 => ⟨S_, .f32⟩
  | 109 => ⟨S512, .f32⟩
  | 110 => ⟨S1x1x1x512, .f32⟩
  | 111 => ⟨S_, .f32⟩
  | 112 => ⟨S1x1x1x512, .f32⟩
  | 113 => ⟨S1x1x1x512, .f32⟩
  | 114 => ⟨S4x16x3x512, .f32⟩
  | 115 => ⟨S4x16x3x512, .f32⟩
  | 116 => ⟨S4x16x3x512, .f32⟩
  | 117 => ⟨S_, .f32⟩
  | 118 => ⟨S_, .f32⟩
  | 119 => ⟨S_, .f32⟩
  | 120 => ⟨S_, .f32⟩
  | 121 => ⟨S512, .f32⟩
  | 122 => ⟨S1x1x1x512, .f32⟩
  | 123 => ⟨S1x1x1x512, .f32⟩
  | 124 => ⟨S1x1x1x512, .f32⟩
  | 125 => ⟨S_, .f32⟩
  | 126 => ⟨S_, .i1⟩
  | 127 => ⟨S_, .f32⟩
  | _ => ⟨S4x224x224x3, .f32⟩

abbrev hbmTy0_3 (i : Nat) : BufTy := match i % 128 with
  | 0 => ⟨S_, .f32⟩
  | 1 => ⟨S1x1x1x512, .f32⟩
  | 2 => ⟨S1x1x1x512, .f32⟩
  | 3 => ⟨S4x16x3x512, .f32⟩
  | 4 => ⟨S4x16x3x512, .f32⟩
  | 5 => ⟨S_, .f32⟩
  | 6 => ⟨S1x1x1x512, .f32⟩
  | 7 => ⟨S1x1x1x512, .f32⟩
  | 8 => ⟨S1x1x1x512, .f32⟩
  | 9 => ⟨S4x16x3x512, .f32⟩
  | 10 => ⟨S4x16x3x512, .f32⟩
  | 11 => ⟨S4x24576, .f32⟩
  | 12 => ⟨S4x1x24576, .f32⟩
  | 13 => ⟨S4x1x8x24576, .f32⟩
  | 14 => ⟨S4x8x24576, .f32⟩
  | 15 => ⟨S32x24576, .f32⟩
  | 16 => ⟨S32x1024, .f32⟩
  | 17 => ⟨S1x1024, .f32⟩
  | 18 => ⟨S32x1024, .f32⟩
  | 19 => ⟨S32x1024, .f32⟩
  | 20 => ⟨S_, .f32⟩
  | 21 => ⟨S32x1024, .f32⟩
  | 22 => ⟨S32x1024, .f32⟩
  | 23 => ⟨S32x512, .f32⟩
  | 24 => ⟨S1x512, .f32⟩
  | 25 => ⟨S32x512, .f32⟩
  | 26 => ⟨S32x512, .f32⟩
  | 27 => ⟨S_, .f32⟩
  | 28 => ⟨S32x512, .f32⟩
  | 29 => ⟨S32x512, .f32⟩
  | 30 => ⟨S32x128, .f32⟩
  | 31 => ⟨S1x128, .f32⟩
  | 32 => ⟨S32x128, .f32⟩
  | 33 => ⟨S32x128, .f32⟩
  | 34 => ⟨S_, .f32⟩
  | 35 => ⟨S32x128, .f32⟩
  | 36 => ⟨S32x128, .f32⟩
  | 37 => ⟨S4x8x128, .f32⟩
  | 38 => ⟨S_, .f32⟩
  | 39 => ⟨S4x128, .f32⟩
  | 40 => ⟨S_, .f32⟩
  | 41 => ⟨S4x128, .f32⟩
  | 42 => ⟨S4x128, .f32⟩
  | 43 => ⟨S4x1x128, .f32⟩
  | 44 => ⟨S4x1x65536x128, .f32⟩
  | 45 => ⟨S4x65536x128, .f32⟩
  | 46 => ⟨S262144x128, .f32⟩
  | 47 => ⟨S262144x128, .f32⟩
  | 48 => ⟨S1x128, .f32⟩
  | 49 => ⟨S262144x128, .f32⟩
  | 50 => ⟨S262144x128, .f32⟩
  | 51 => ⟨S_, .f32⟩
  | 52 => ⟨S262144x128, .f32⟩
  | 53 => ⟨S262144x128, .f32⟩
  | 54 => ⟨S262144x32, .f32⟩
  | 55 => ⟨S1x32, .f32⟩
  | 56 => ⟨S262144x32, .f32⟩
  | 57 => ⟨S262144x32, .f32⟩
  | 58 => ⟨S_, .f32⟩
  | 59 => ⟨S262144x32, .f32⟩
  | 60 => ⟨S262144x32, .f32⟩
  | 61 => ⟨S262144x1, .f32⟩
  | 62 => ⟨S1x1, .f32⟩
  | 63 => ⟨S262144x1, .f32⟩
  | 64 => ⟨S262144x1, .f32⟩
  | 65 => ⟨S262144x1, .f32⟩
  | 66 => ⟨S262144x1, .f32⟩
  | 67 => ⟨S_, .f32⟩
  | 68 => ⟨S262144x1, .f32⟩
  | 69 => ⟨S262144x1, .f32⟩
  | 70 => ⟨S_, .f32⟩
  | 71 => ⟨S262144x1, .f32⟩
  | 72 => ⟨S262144x1, .f32⟩
  | 73 => ⟨S4x65536, .f32⟩
  | 74 => ⟨S_, .f32⟩
  | 75 => ⟨S4, .f32⟩
  | 76 => ⟨S4x1, .f32⟩
  | 77 => ⟨S4x65536, .f32⟩
  | 78 => ⟨S4x65536, .f32⟩
  | 79 => ⟨S262144x2, .f32⟩
  | 80 => ⟨S262144x32, .f32⟩
  | 81 => ⟨S1x32, .f32⟩
  | 82 => ⟨S262144x32, .f32⟩
  | 83 => ⟨S262144x32, .f32⟩
  | 84 => ⟨S_, .f32⟩
  | 85 => ⟨S262144x32, .f32⟩
  | 86 => ⟨S262144x32, .f32⟩
  | 87 => ⟨S262144x64, .f32⟩
  | 88 => ⟨S1x64, .f32⟩
  | 89 => ⟨S262144x64, .f32⟩
  | 90 => ⟨S262144x64, .f32⟩
  | 91 => ⟨S_, .f32⟩
  | 92 => ⟨S262144x64, .f32⟩
  | 93 => ⟨S262144x64, .f32⟩
  | 94 => ⟨S262144x2, .f32⟩
  | 95 => ⟨S1x2, .f32⟩
  | 96 => ⟨S262144x2, .f32⟩
  | 97 => ⟨S262144x2, .f32⟩
  | 98 => ⟨S262144x2, .f32⟩
  | 99 => ⟨S4x65536x2, .f32⟩
  | 100 => ⟨S4x65536x2, .f32⟩
  | 101 => ⟨S_, .f32⟩
  | 102 => ⟨S_, .f32⟩
  | 103 => ⟨S4x65536, .f32⟩
  | 104 => ⟨S4x1, .f32⟩
  | 105 => ⟨S4x65536, .f32⟩
  | 106 => ⟨S4x65536, .f32⟩
  | 107 => ⟨S65536, .f32⟩
  | 108 => ⟨S_, .f32⟩
  | 109 => ⟨S65536, .f32⟩
  | 110 => ⟨S65536, .f32⟩
  | 111 => ⟨S_, .f32⟩
  | 112 => ⟨S65536, .f32⟩
  | 113 => ⟨S65536, .f32⟩
  | 114 => ⟨S4x65536, .f32⟩
  | 115 => ⟨S4x1x65536, .f32⟩
  | 116 => ⟨S4x65536x1, .f32⟩
  | 117 => ⟨S4x65536x65536, .f32⟩
  | 118 => ⟨S4x65536x65536, .f32⟩
  | 119 => ⟨S4x65536x65536, .i1⟩
  | 120 => ⟨S4x65536x65536, .i32⟩
  | 121 => ⟨S_, .i32⟩
  | 122 => ⟨S4x65536, .i32⟩
  | 123 => ⟨S_, .i32⟩
  | 124 => ⟨S_, .i32⟩
  | 125 => ⟨S_, .i32⟩
  | 126 => ⟨S4x65536, .i32⟩
  | 127 => ⟨S4x65536, .i32⟩
  | _ => ⟨S4x224x224x3, .f32⟩

abbrev hbmTy0_4 (i : Nat) : BufTy := match i % 128 with
  | 0 => ⟨S_, .i32⟩
  | 1 => ⟨S4x65536, .i32⟩
  | 2 => ⟨S4x65536, .i32⟩
  | 3 => ⟨S4x65536x1, .i32⟩
  | 4 => ⟨S_, .i32⟩
  | 5 => ⟨S4x65536x1, .i32⟩
  | 6 => ⟨S4x65536x1, .i1⟩
  | 7 => ⟨S_, .i32⟩
  | 8 => ⟨S4x65536x1, .i32⟩
  | 9 => ⟨S4x65536x1, .i32⟩
  | 10 => ⟨S4x65536x1, .i32⟩
  | 11 => ⟨S4x65536x2, .f32⟩
  | _ => ⟨S4x224x224x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x224x224x3, .f32⟩

abbrev bufTy : (tb : Table) → Fin (tcTables nBuf tb) → BufTy
  | .hbm, ⟨i, _⟩ => hbmTy i
  | _, _ => ⟨S4x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call0_v0 : Ref sig .tc := ⟨.hbm, 50, rfl⟩
abbrev main_v18 : Ref sig .tc := ⟨.hbm, 51, rfl⟩
abbrev main_call1_v0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call2_cst : Ref sig .tc := ⟨.hbm, 62, rfl⟩
abbrev main_call2_v0 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_v30 : Ref sig .tc := ⟨.hbm, 67, rfl⟩
abbrev main_cst_1 : Ref sig .tc := ⟨.hbm, 68, rfl⟩
abbrev main_v31 : Ref sig .tc := ⟨.hbm, 69, rfl⟩
abbrev main_v32 : Ref sig .tc := ⟨.hbm, 70, rfl⟩
abbrev main_c_2 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_cst_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_cst_1 : Ref sig .tc := ⟨.hbm, 82, rfl⟩
abbrev main_call3_v8 : Ref sig .tc := ⟨.hbm, 83, rfl⟩
abbrev main_call3_cst_2 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_cst_3 : Ref sig .tc := ⟨.hbm, 89, rfl⟩
abbrev main_call3_v13 : Ref sig .tc := ⟨.hbm, 90, rfl⟩
abbrev main_call3_cst_4 : Ref sig .tc := ⟨.hbm, 91, rfl⟩
abbrev main_call3_call0_v0 : Ref sig .tc := ⟨.hbm, 92, rfl⟩
abbrev main_call3_call0_v1 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_cst_3 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_c_4 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_5 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_call4_v0 : Ref sig .tc := ⟨.hbm, 123, rfl⟩
abbrev main_v59 : Ref sig .tc := ⟨.hbm, 124, rfl⟩
abbrev main_call5_v0 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_call6_cst : Ref sig .tc := ⟨.hbm, 135, rfl⟩
abbrev main_call6_v0 : Ref sig .tc := ⟨.hbm, 136, rfl⟩
abbrev main_v69 : Ref sig .tc := ⟨.hbm, 137, rfl⟩
abbrev main_cst_6 : Ref sig .tc := ⟨.hbm, 138, rfl⟩
abbrev main_v70 : Ref sig .tc := ⟨.hbm, 139, rfl⟩
abbrev main_v71 : Ref sig .tc := ⟨.hbm, 140, rfl⟩
abbrev main_cst_7 : Ref sig .tc := ⟨.hbm, 141, rfl⟩
abbrev main_v72 : Ref sig .tc := ⟨.hbm, 142, rfl⟩
abbrev main_v73 : Ref sig .tc := ⟨.hbm, 143, rfl⟩
abbrev main_c_8 : Ref sig .tc := ⟨.hbm, 144, rfl⟩
abbrev main_call7_cst : Ref sig .tc := ⟨.hbm, 145, rfl⟩
abbrev main_call7_v0 : Ref sig .tc := ⟨.hbm, 146, rfl⟩
abbrev main_call7_v1 : Ref sig .tc := ⟨.hbm, 147, rfl⟩
abbrev main_call7_cst_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_v6 : Ref sig .tc := ⟨.hbm, 153, rfl⟩
abbrev main_call7_v7 : Ref sig .tc := ⟨.hbm, 154, rfl⟩
abbrev main_call7_cst_1 : Ref sig .tc := ⟨.hbm, 155, rfl⟩
abbrev main_call7_v8 : Ref sig .tc := ⟨.hbm, 156, rfl⟩
abbrev main_call7_cst_2 : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_v12 : Ref sig .tc := ⟨.hbm, 161, rfl⟩
abbrev main_call7_cst_3 : Ref sig .tc := ⟨.hbm, 162, rfl⟩
abbrev main_call7_v13 : Ref sig .tc := ⟨.hbm, 163, rfl⟩
abbrev main_call7_cst_4 : Ref sig .tc := ⟨.hbm, 164, rfl⟩
abbrev main_call7_call0_v0 : Ref sig .tc := ⟨.hbm, 165, rfl⟩
abbrev main_call7_call0_v1 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_9 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_c_10 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_c_11 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_call8_v0 : Ref sig .tc := ⟨.hbm, 196, rfl⟩
abbrev main_v100 : Ref sig .tc := ⟨.hbm, 197, rfl⟩
abbrev main_call9_v0 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_call10_cst : Ref sig .tc := ⟨.hbm, 208, rfl⟩
abbrev main_call10_v0 : Ref sig .tc := ⟨.hbm, 209, rfl⟩
abbrev main_v110 : Ref sig .tc := ⟨.hbm, 210, rfl⟩
abbrev main_cst_12 : Ref sig .tc := ⟨.hbm, 211, rfl⟩
abbrev main_v111 : Ref sig .tc := ⟨.hbm, 212, rfl⟩
abbrev main_v112 : Ref sig .tc := ⟨.hbm, 213, rfl⟩
abbrev main_cst_13 : Ref sig .tc := ⟨.hbm, 214, rfl⟩
abbrev main_v113 : Ref sig .tc := ⟨.hbm, 215, rfl⟩
abbrev main_v114 : Ref sig .tc := ⟨.hbm, 216, rfl⟩
abbrev main_c_14 : Ref sig .tc := ⟨.hbm, 217, rfl⟩
abbrev main_call11_cst : Ref sig .tc := ⟨.hbm, 218, rfl⟩
abbrev main_call11_v0 : Ref sig .tc := ⟨.hbm, 219, rfl⟩
abbrev main_call11_v1 : Ref sig .tc := ⟨.hbm, 220, rfl⟩
abbrev main_call11_cst_0 : Ref sig .tc := ⟨.hbm, 221, rfl⟩
abbrev main_call11_v2 : Ref sig .tc := ⟨.hbm, 222, rfl⟩
abbrev main_call11_v3 : Ref sig .tc := ⟨.hbm, 223, rfl⟩
abbrev main_call11_v4 : Ref sig .tc := ⟨.hbm, 224, rfl⟩
abbrev main_call11_v5 : Ref sig .tc := ⟨.hbm, 225, rfl⟩
abbrev main_call11_v6 : Ref sig .tc := ⟨.hbm, 226, rfl⟩
abbrev main_call11_v7 : Ref sig .tc := ⟨.hbm, 227, rfl⟩
abbrev main_call11_cst_1 : Ref sig .tc := ⟨.hbm, 228, rfl⟩
abbrev main_call11_v8 : Ref sig .tc := ⟨.hbm, 229, rfl⟩
abbrev main_call11_cst_2 : Ref sig .tc := ⟨.hbm, 230, rfl⟩
abbrev main_call11_v9 : Ref sig .tc := ⟨.hbm, 231, rfl⟩
abbrev main_call11_v10 : Ref sig .tc := ⟨.hbm, 232, rfl⟩
abbrev main_call11_v11 : Ref sig .tc := ⟨.hbm, 233, rfl⟩
abbrev main_call11_v12 : Ref sig .tc := ⟨.hbm, 234, rfl⟩
abbrev main_call11_cst_3 : Ref sig .tc := ⟨.hbm, 235, rfl⟩
abbrev main_call11_v13 : Ref sig .tc := ⟨.hbm, 236, rfl⟩
abbrev main_call11_cst_4 : Ref sig .tc := ⟨.hbm, 237, rfl⟩
abbrev main_call11_call0_v0 : Ref sig .tc := ⟨.hbm, 238, rfl⟩
abbrev main_call11_call0_v1 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_cst_15 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_v124 : Ref sig .tc := ⟨.hbm, 250, rfl⟩
abbrev main_c_16 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_c_17 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_call12_v0 : Ref sig .tc := ⟨.hbm, 269, rfl⟩
abbrev main_v141 : Ref sig .tc := ⟨.hbm, 270, rfl⟩
abbrev main_call13_v0 : Ref sig .tc := ⟨.hbm, 271, rfl⟩
abbrev main_v142 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_call14_cst : Ref sig .tc := ⟨.hbm, 281, rfl⟩
abbrev main_call14_v0 : Ref sig .tc := ⟨.hbm, 282, rfl⟩
abbrev main_v151 : Ref sig .tc := ⟨.hbm, 283, rfl⟩
abbrev main_cst_18 : Ref sig .tc := ⟨.hbm, 284, rfl⟩
abbrev main_v152 : Ref sig .tc := ⟨.hbm, 285, rfl⟩
abbrev main_v153 : Ref sig .tc := ⟨.hbm, 286, rfl⟩
abbrev main_cst_19 : Ref sig .tc := ⟨.hbm, 287, rfl⟩
abbrev main_v154 : Ref sig .tc := ⟨.hbm, 288, rfl⟩
abbrev main_v155 : Ref sig .tc := ⟨.hbm, 289, rfl⟩
abbrev main_c_20 : Ref sig .tc := ⟨.hbm, 290, rfl⟩
abbrev main_call15_cst : Ref sig .tc := ⟨.hbm, 291, rfl⟩
abbrev main_call15_v0 : Ref sig .tc := ⟨.hbm, 292, rfl⟩
abbrev main_call15_v1 : Ref sig .tc := ⟨.hbm, 293, rfl⟩
abbrev main_call15_cst_0 : Ref sig .tc := ⟨.hbm, 294, rfl⟩
abbrev main_call15_v2 : Ref sig .tc := ⟨.hbm, 295, rfl⟩
abbrev main_call15_v3 : Ref sig .tc := ⟨.hbm, 296, rfl⟩
abbrev main_call15_v4 : Ref sig .tc := ⟨.hbm, 297, rfl⟩
abbrev main_call15_v5 : Ref sig .tc := ⟨.hbm, 298, rfl⟩
abbrev main_call15_v6 : Ref sig .tc := ⟨.hbm, 299, rfl⟩
abbrev main_call15_v7 : Ref sig .tc := ⟨.hbm, 300, rfl⟩
abbrev main_call15_cst_1 : Ref sig .tc := ⟨.hbm, 301, rfl⟩
abbrev main_call15_v8 : Ref sig .tc := ⟨.hbm, 302, rfl⟩
abbrev main_call15_cst_2 : Ref sig .tc := ⟨.hbm, 303, rfl⟩
abbrev main_call15_v9 : Ref sig .tc := ⟨.hbm, 304, rfl⟩
abbrev main_call15_v10 : Ref sig .tc := ⟨.hbm, 305, rfl⟩
abbrev main_call15_v11 : Ref sig .tc := ⟨.hbm, 306, rfl⟩
abbrev main_call15_v12 : Ref sig .tc := ⟨.hbm, 307, rfl⟩
abbrev main_call15_cst_3 : Ref sig .tc := ⟨.hbm, 308, rfl⟩
abbrev main_call15_v13 : Ref sig .tc := ⟨.hbm, 309, rfl⟩
abbrev main_call15_cst_4 : Ref sig .tc := ⟨.hbm, 310, rfl⟩
abbrev main_call15_call0_v0 : Ref sig .tc := ⟨.hbm, 311, rfl⟩
abbrev main_call15_call0_v1 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_cst_21 : Ref sig .tc := ⟨.hbm, 316, rfl⟩
abbrev main_v159 : Ref sig .tc := ⟨.hbm, 317, rfl⟩
abbrev main_v160 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_v165 : Ref sig .tc := ⟨.hbm, 323, rfl⟩
abbrev main_c_22 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_c_23 : Ref sig .tc := ⟨.hbm, 334, rfl⟩
abbrev main_v175 : Ref sig .tc := ⟨.hbm, 335, rfl⟩
abbrev main_v176 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩
abbrev main_v180 : Ref sig .tc := ⟨.hbm, 340, rfl⟩
abbrev main_v181 : Ref sig .tc := ⟨.hbm, 341, rfl⟩
abbrev main_call16_v0 : Ref sig .tc := ⟨.hbm, 342, rfl⟩
abbrev main_v182 : Ref sig .tc := ⟨.hbm, 343, rfl⟩
abbrev main_call17_v0 : Ref sig .tc := ⟨.hbm, 344, rfl⟩
abbrev main_v183 : Ref sig .tc := ⟨.hbm, 345, rfl⟩
abbrev main_v184 : Ref sig .tc := ⟨.hbm, 346, rfl⟩
abbrev main_v185 : Ref sig .tc := ⟨.hbm, 347, rfl⟩
abbrev main_v186 : Ref sig .tc := ⟨.hbm, 348, rfl⟩
abbrev main_v187 : Ref sig .tc := ⟨.hbm, 349, rfl⟩
abbrev main_v188 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_call18_cst : Ref sig .tc := ⟨.hbm, 354, rfl⟩
abbrev main_call18_v0 : Ref sig .tc := ⟨.hbm, 355, rfl⟩
abbrev main_v192 : Ref sig .tc := ⟨.hbm, 356, rfl⟩
abbrev main_cst_24 : Ref sig .tc := ⟨.hbm, 357, rfl⟩
abbrev main_v193 : Ref sig .tc := ⟨.hbm, 358, rfl⟩
abbrev main_v194 : Ref sig .tc := ⟨.hbm, 359, rfl⟩
abbrev main_cst_25 : Ref sig .tc := ⟨.hbm, 360, rfl⟩
abbrev main_v195 : Ref sig .tc := ⟨.hbm, 361, rfl⟩
abbrev main_v196 : Ref sig .tc := ⟨.hbm, 362, rfl⟩
abbrev main_c_26 : Ref sig .tc := ⟨.hbm, 363, rfl⟩
abbrev main_call19_cst : Ref sig .tc := ⟨.hbm, 364, rfl⟩
abbrev main_call19_v0 : Ref sig .tc := ⟨.hbm, 365, rfl⟩
abbrev main_call19_v1 : Ref sig .tc := ⟨.hbm, 366, rfl⟩
abbrev main_call19_cst_0 : Ref sig .tc := ⟨.hbm, 367, rfl⟩
abbrev main_call19_v2 : Ref sig .tc := ⟨.hbm, 368, rfl⟩
abbrev main_call19_v3 : Ref sig .tc := ⟨.hbm, 369, rfl⟩
abbrev main_call19_v4 : Ref sig .tc := ⟨.hbm, 370, rfl⟩
abbrev main_call19_v5 : Ref sig .tc := ⟨.hbm, 371, rfl⟩
abbrev main_call19_v6 : Ref sig .tc := ⟨.hbm, 372, rfl⟩
abbrev main_call19_v7 : Ref sig .tc := ⟨.hbm, 373, rfl⟩
abbrev main_call19_cst_1 : Ref sig .tc := ⟨.hbm, 374, rfl⟩
abbrev main_call19_v8 : Ref sig .tc := ⟨.hbm, 375, rfl⟩
abbrev main_call19_cst_2 : Ref sig .tc := ⟨.hbm, 376, rfl⟩
abbrev main_call19_v9 : Ref sig .tc := ⟨.hbm, 377, rfl⟩
abbrev main_call19_v10 : Ref sig .tc := ⟨.hbm, 378, rfl⟩
abbrev main_call19_v11 : Ref sig .tc := ⟨.hbm, 379, rfl⟩
abbrev main_call19_v12 : Ref sig .tc := ⟨.hbm, 380, rfl⟩
abbrev main_call19_cst_3 : Ref sig .tc := ⟨.hbm, 381, rfl⟩
abbrev main_call19_v13 : Ref sig .tc := ⟨.hbm, 382, rfl⟩
abbrev main_call19_cst_4 : Ref sig .tc := ⟨.hbm, 383, rfl⟩
abbrev main_call19_call0_v0 : Ref sig .tc := ⟨.hbm, 384, rfl⟩
abbrev main_call19_call0_v1 : Ref sig .tc := ⟨.hbm, 385, rfl⟩
abbrev main_v197 : Ref sig .tc := ⟨.hbm, 386, rfl⟩
abbrev main_v198 : Ref sig .tc := ⟨.hbm, 387, rfl⟩
abbrev main_v199 : Ref sig .tc := ⟨.hbm, 388, rfl⟩
abbrev main_cst_27 : Ref sig .tc := ⟨.hbm, 389, rfl⟩
abbrev main_v200 : Ref sig .tc := ⟨.hbm, 390, rfl⟩
abbrev main_v201 : Ref sig .tc := ⟨.hbm, 391, rfl⟩
abbrev main_v202 : Ref sig .tc := ⟨.hbm, 392, rfl⟩
abbrev main_v203 : Ref sig .tc := ⟨.hbm, 393, rfl⟩
abbrev main_v204 : Ref sig .tc := ⟨.hbm, 394, rfl⟩
abbrev main_v205 : Ref sig .tc := ⟨.hbm, 395, rfl⟩
abbrev main_v206 : Ref sig .tc := ⟨.hbm, 396, rfl⟩
abbrev main_v207 : Ref sig .tc := ⟨.hbm, 397, rfl⟩
abbrev main_v208 : Ref sig .tc := ⟨.hbm, 398, rfl⟩
abbrev main_v209 : Ref sig .tc := ⟨.hbm, 399, rfl⟩
abbrev main_v210 : Ref sig .tc := ⟨.hbm, 400, rfl⟩
abbrev main_v211 : Ref sig .tc := ⟨.hbm, 401, rfl⟩
abbrev main_v212 : Ref sig .tc := ⟨.hbm, 402, rfl⟩
abbrev main_v213 : Ref sig .tc := ⟨.hbm, 403, rfl⟩
abbrev main_call20_cst : Ref sig .tc := ⟨.hbm, 404, rfl⟩
abbrev main_call20_v0 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_v218 : Ref sig .tc := ⟨.hbm, 410, rfl⟩
abbrev main_call21_cst : Ref sig .tc := ⟨.hbm, 411, rfl⟩
abbrev main_call21_v0 : Ref sig .tc := ⟨.hbm, 412, rfl⟩
abbrev main_v219 : Ref sig .tc := ⟨.hbm, 413, rfl⟩
abbrev main_v220 : Ref sig .tc := ⟨.hbm, 414, rfl⟩
abbrev main_v221 : Ref sig .tc := ⟨.hbm, 415, rfl⟩
abbrev main_v222 : Ref sig .tc := ⟨.hbm, 416, rfl⟩
abbrev main_v223 : Ref sig .tc := ⟨.hbm, 417, rfl⟩
abbrev main_call22_cst : Ref sig .tc := ⟨.hbm, 418, rfl⟩
abbrev main_call22_v0 : Ref sig .tc := ⟨.hbm, 419, rfl⟩
abbrev main_v224 : Ref sig .tc := ⟨.hbm, 420, rfl⟩
abbrev main_v225 : Ref sig .tc := ⟨.hbm, 421, rfl⟩
abbrev main_cst_28 : Ref sig .tc := ⟨.hbm, 422, rfl⟩
abbrev main_v226 : Ref sig .tc := ⟨.hbm, 423, rfl⟩
abbrev main_cst_29 : Ref sig .tc := ⟨.hbm, 424, rfl⟩
abbrev main_v227 : Ref sig .tc := ⟨.hbm, 425, rfl⟩
abbrev main_v228 : Ref sig .tc := ⟨.hbm, 426, rfl⟩
abbrev main_v229 : Ref sig .tc := ⟨.hbm, 427, rfl⟩
abbrev main_v230 : Ref sig .tc := ⟨.hbm, 428, rfl⟩
abbrev main_v231 : Ref sig .tc := ⟨.hbm, 429, rfl⟩
abbrev main_v232 : Ref sig .tc := ⟨.hbm, 430, rfl⟩
abbrev main_v233 : Ref sig .tc := ⟨.hbm, 431, rfl⟩
abbrev main_v234 : Ref sig .tc := ⟨.hbm, 432, rfl⟩
abbrev main_v235 : Ref sig .tc := ⟨.hbm, 433, rfl⟩
abbrev main_v236 : Ref sig .tc := ⟨.hbm, 434, rfl⟩
abbrev main_call23_cst : Ref sig .tc := ⟨.hbm, 435, rfl⟩
abbrev main_call23_v0 : Ref sig .tc := ⟨.hbm, 436, rfl⟩
abbrev main_v237 : Ref sig .tc := ⟨.hbm, 437, rfl⟩
abbrev main_v238 : Ref sig .tc := ⟨.hbm, 438, rfl⟩
abbrev main_v239 : Ref sig .tc := ⟨.hbm, 439, rfl⟩
abbrev main_v240 : Ref sig .tc := ⟨.hbm, 440, rfl⟩
abbrev main_v241 : Ref sig .tc := ⟨.hbm, 441, rfl⟩
abbrev main_call24_cst : Ref sig .tc := ⟨.hbm, 442, rfl⟩
abbrev main_call24_v0 : Ref sig .tc := ⟨.hbm, 443, rfl⟩
abbrev main_v242 : Ref sig .tc := ⟨.hbm, 444, rfl⟩
abbrev main_v243 : Ref sig .tc := ⟨.hbm, 445, rfl⟩
abbrev main_v244 : Ref sig .tc := ⟨.hbm, 446, rfl⟩
abbrev main_v245 : Ref sig .tc := ⟨.hbm, 447, rfl⟩
abbrev main_v246 : Ref sig .tc := ⟨.hbm, 448, rfl⟩
abbrev main_v247 : Ref sig .tc := ⟨.hbm, 449, rfl⟩
abbrev main_v248 : Ref sig .tc := ⟨.hbm, 450, rfl⟩
abbrev main_cst_30 : Ref sig .tc := ⟨.hbm, 451, rfl⟩
abbrev main_v249 : Ref sig .tc := ⟨.hbm, 452, rfl⟩
abbrev main_v250 : Ref sig .tc := ⟨.hbm, 453, rfl⟩
abbrev main_cst_31 : Ref sig .tc := ⟨.hbm, 454, rfl⟩
abbrev main_v251 : Ref sig .tc := ⟨.hbm, 455, rfl⟩
abbrev main_v252 : Ref sig .tc := ⟨.hbm, 456, rfl⟩
abbrev main_v253 : Ref sig .tc := ⟨.hbm, 457, rfl⟩
abbrev main_cst_32 : Ref sig .tc := ⟨.hbm, 458, rfl⟩
abbrev main_v254 : Ref sig .tc := ⟨.hbm, 459, rfl⟩
abbrev main_v255 : Ref sig .tc := ⟨.hbm, 460, rfl⟩
abbrev main_v256 : Ref sig .tc := ⟨.hbm, 461, rfl⟩
abbrev main_v257 : Ref sig .tc := ⟨.hbm, 462, rfl⟩
abbrev main_v258 : Ref sig .tc := ⟨.hbm, 463, rfl⟩
abbrev main_v259 : Ref sig .tc := ⟨.hbm, 464, rfl⟩
abbrev main_v260 : Ref sig .tc := ⟨.hbm, 465, rfl⟩
abbrev main_v261 : Ref sig .tc := ⟨.hbm, 466, rfl⟩
abbrev main_v262 : Ref sig .tc := ⟨.hbm, 467, rfl⟩
abbrev main_call25_cst : Ref sig .tc := ⟨.hbm, 468, rfl⟩
abbrev main_call25_v0 : Ref sig .tc := ⟨.hbm, 469, rfl⟩
abbrev main_v263 : Ref sig .tc := ⟨.hbm, 470, rfl⟩
abbrev main_v264 : Ref sig .tc := ⟨.hbm, 471, rfl⟩
abbrev main_v265 : Ref sig .tc := ⟨.hbm, 472, rfl⟩
abbrev main_v266 : Ref sig .tc := ⟨.hbm, 473, rfl⟩
abbrev main_v267 : Ref sig .tc := ⟨.hbm, 474, rfl⟩
abbrev main_call26_cst : Ref sig .tc := ⟨.hbm, 475, rfl⟩
abbrev main_call26_v0 : Ref sig .tc := ⟨.hbm, 476, rfl⟩
abbrev main_v268 : Ref sig .tc := ⟨.hbm, 477, rfl⟩
abbrev main_v269 : Ref sig .tc := ⟨.hbm, 478, rfl⟩
abbrev main_v270 : Ref sig .tc := ⟨.hbm, 479, rfl⟩
abbrev main_v271 : Ref sig .tc := ⟨.hbm, 480, rfl⟩
abbrev main_v272 : Ref sig .tc := ⟨.hbm, 481, rfl⟩
abbrev main_v273 : Ref sig .tc := ⟨.hbm, 482, rfl⟩
abbrev main_v274 : Ref sig .tc := ⟨.hbm, 483, rfl⟩
abbrev main_v275 : Ref sig .tc := ⟨.hbm, 484, rfl⟩
abbrev main_call27_call0_cst : Ref sig .tc := ⟨.hbm, 485, rfl⟩
abbrev main_call27_call0_v0 : Ref sig .tc := ⟨.hbm, 486, rfl⟩
abbrev main_v276 : Ref sig .tc := ⟨.hbm, 487, rfl⟩
abbrev main_v277 : Ref sig .tc := ⟨.hbm, 488, rfl⟩
abbrev main_v278 : Ref sig .tc := ⟨.hbm, 489, rfl⟩
abbrev main_v279 : Ref sig .tc := ⟨.hbm, 490, rfl⟩
abbrev main_v280 : Ref sig .tc := ⟨.hbm, 491, rfl⟩
abbrev main_cst_33 : Ref sig .tc := ⟨.hbm, 492, rfl⟩
abbrev main_v281 : Ref sig .tc := ⟨.hbm, 493, rfl⟩
abbrev main_v282 : Ref sig .tc := ⟨.hbm, 494, rfl⟩
abbrev main_cst_34 : Ref sig .tc := ⟨.hbm, 495, rfl⟩
abbrev main_v283 : Ref sig .tc := ⟨.hbm, 496, rfl⟩
abbrev main_v284 : Ref sig .tc := ⟨.hbm, 497, rfl⟩
abbrev main_v285 : Ref sig .tc := ⟨.hbm, 498, rfl⟩
abbrev main_v286 : Ref sig .tc := ⟨.hbm, 499, rfl⟩
abbrev main_v287 : Ref sig .tc := ⟨.hbm, 500, rfl⟩
abbrev main_v288 : Ref sig .tc := ⟨.hbm, 501, rfl⟩
abbrev main_v289 : Ref sig .tc := ⟨.hbm, 502, rfl⟩
abbrev main_v290 : Ref sig .tc := ⟨.hbm, 503, rfl⟩
abbrev main_v291 : Ref sig .tc := ⟨.hbm, 504, rfl⟩
abbrev main_c_35 : Ref sig .tc := ⟨.hbm, 505, rfl⟩
abbrev main_v292 : Ref sig .tc := ⟨.hbm, 506, rfl⟩
abbrev main_c_36 : Ref sig .tc := ⟨.hbm, 507, rfl⟩
abbrev main_c_37 : Ref sig .tc := ⟨.hbm, 508, rfl⟩
abbrev main_call28_v0 : Ref sig .tc := ⟨.hbm, 509, rfl⟩
abbrev main_call28_v1 : Ref sig .tc := ⟨.hbm, 510, rfl⟩
abbrev main_call28_v2 : Ref sig .tc := ⟨.hbm, 511, rfl⟩
abbrev main_call28_v3 : Ref sig .tc := ⟨.hbm, 512, rfl⟩
abbrev main_call28_v4 : Ref sig .tc := ⟨.hbm, 513, rfl⟩
abbrev main_v293 : Ref sig .tc := ⟨.hbm, 514, rfl⟩
abbrev main_v294 : Ref sig .tc := ⟨.hbm, 515, rfl⟩
abbrev main_call29_c : Ref sig .tc := ⟨.hbm, 516, rfl⟩
abbrev main_call29_v0 : Ref sig .tc := ⟨.hbm, 517, rfl⟩
abbrev main_call29_v1 : Ref sig .tc := ⟨.hbm, 518, rfl⟩
abbrev main_call29_c_0 : Ref sig .tc := ⟨.hbm, 519, rfl⟩
abbrev main_call29_v2 : Ref sig .tc := ⟨.hbm, 520, rfl⟩
abbrev main_call29_v3 : Ref sig .tc := ⟨.hbm, 521, rfl⟩
abbrev main_call29_v4 : Ref sig .tc := ⟨.hbm, 522, rfl⟩
abbrev main_v295 : Ref sig .tc := ⟨.hbm, 523, rfl⟩

abbrev nD : Nat := 1
abbrev τ : Topo := Topo.v7x

variable {F : FTy → Type} [FloatOps F]
-- ==== Proof.Literals.lean ====
/- The real numbers that the reference's constants stand for. -/
module

public import Idealize.ShloMosaic.Lib.ValueIdx
public import Idealize.ShloMosaic.PureOps.Ideal.Laws

@[expose] public section

noncomputable section

namespace Cert.Literals

open Idealize.ShloMosaic

/-- The constant zero. -/
theorem zero : Ideal.ofBits .f32 0x00000000#32 = ((0 : ℝ) : EReal) := by
  simp [Ideal.ofBits, Ideal.ieee]

/-- The constant one. -/
theorem one : Ideal.ofBits .f32 0x3F800000#32 = ((1 : ℝ) : EReal) := by
  simp [Ideal.ofBits, Ideal.ieee, -EReal.coe_mul]; norm_num

/-- The constant one half. -/
theorem half : Ideal.ofBits .f32 0x3F000000#32 = ((1 / 2 : ℝ) : EReal) := by
  simp [Ideal.ofBits, Ideal.ieee, -EReal.coe_mul]; norm_num

/-- The constant eight, the size of the ensemble. -/
theorem eight : Ideal.ofBits .f32 0x41000000#32 = ((8 : ℝ) : EReal) := by
  simp [Ideal.ofBits, Ideal.ieee, -EReal.coe_mul]; norm_num

/-- The constant 65536, the number of particles. -/
theorem particles : Ideal.ofBits .f32 0x47800000#32 = ((65536 : ℝ) : EReal) := by
  simp [Ideal.ofBits, Ideal.ieee, -EReal.coe_mul]; norm_num

/-- The constant that the variance is shifted by, one thousandth rounded. -/
theorem shift : Ideal.ofBits .f32 0x3A83126F#32 = ((8589935 / 8589934592 : ℝ) : EReal) := by
  simp [Ideal.ofBits, Ideal.ieee, -EReal.coe_mul]; norm_num

/-- The number of entries of a channel after the fifth convolution. -/
theorem count : Ideal.ofBits .f32 0x43400000#32 = ((192 : ℝ) : EReal) := by
  simp [Ideal.ofBits, Ideal.ieee, -EReal.coe_mul]; norm_num

end Cert.Literals

end
-- ==== Proof.Finite.lean ====
/- Arrays all of whose entries are real numbers, and the operations that keep them so. -/
module

public import proofs.«01_k».proof.Proof.Literals
public import Idealize.ShloMosaic.Lib.Pipeline.Value
public import Idealize.ShloMosaic.Lib.IdealHost
public import Idealize.ShloMosaic.Lib.StableHlo

@[expose] public section

noncomputable section

namespace Cert.Finite

open Idealize.ShloMosaic

/-- Every entry of the array is a real number. -/
def AllReal {S : Shape} (v : FVec Ideal S .f32) : Prop := ∀ i, ∃ r : ℝ, v i = (r : EReal)

/-- Every entry of the array is a positive real number. -/
def AllPos {S : Shape} (v : FVec Ideal S .f32) : Prop := ∀ i, ∃ r : ℝ, 0 < r ∧ v i = (r : EReal)

section
variable {S T U : Shape}

/-- Positive real entries are real. -/
theorem AllPos.real {v : FVec Ideal S .f32} (h : AllPos v) : AllReal v := fun i => (h i).imp fun _ hr => hr.2

/-- A finite sum of real numbers is one. -/
theorem sum_real {ι : Type} (s : Finset ι) (f : ι → EReal) (h : ∀ i, ∃ r : ℝ, f i = (r : EReal)) : ∃ r : ℝ, ∑ i ∈ s, f i = (r : EReal) :=
  Finset.sum_induction f (fun x => ∃ r : ℝ, x = (r : EReal))
    (fun _ _ ⟨a, ha⟩ ⟨b, hb⟩ => ⟨a + b, by rw [ha, hb, EReal.coe_add]⟩) ⟨0, rfl⟩ fun i _ => h i

/-- Reshaping keeps the entries. -/
theorem AllReal.shapeCast {hs : S.ShapeCasts T} {v : FVec Ideal S .f32} (h : AllReal v) : AllReal (shapeCast T v hs) := fun _ => h _

/-- Broadcasting repeats entries. -/
theorem AllReal.broadcast {d : Fin S.rank → Fin T.rank} {hb : S.BroadcastsInDim T d} {v : FVec Ideal S .f32} (h : AllReal v) :
    AllReal (broadcastInDim T d hb v) := fun _ => h _

/-- Broadcasting repeats positive entries. -/
theorem AllPos.broadcast {d : Fin S.rank → Fin T.rank} {hb : S.BroadcastsInDim T d} {v : FVec Ideal S .f32} (h : AllPos v) :
    AllPos (broadcastInDim T d hb v) := fun _ => h _

/-- An array of one constant is real where the constant is. -/
theorem AllReal.const {b : BitVec 32} {r : ℝ} (h : Ideal.ofBits .f32 b = (r : EReal)) : AllReal (constant S .f32 b : FVec Ideal S .f32) :=
  fun _ => ⟨r, h⟩

/-- An array of one constant is positive where the constant is. -/
theorem AllPos.const {b : BitVec 32} {r : ℝ} (h : Ideal.ofBits .f32 b = (r : EReal)) (h0 : 0 < r) :
    AllPos (constant S .f32 b : FVec Ideal S .f32) := fun _ => ⟨r, h0, h⟩

/-- Sums of real numbers are real. -/
theorem AllReal.add {v w : FVec Ideal S .f32} (hv : AllReal v) (hw : AllReal w) : AllReal (addf v w) := fun i => by
  obtain ⟨a, ha⟩ := hv i
  obtain ⟨b, hb⟩ := hw i
  exact ⟨a + b, by rw [addf, ha, hb, Ideal.addf_def, EReal.coe_add]⟩

/-- Sums of positive real numbers are positive. -/
theorem AllPos.add {v w : FVec Ideal S .f32} (hv : AllPos v) (hw : AllPos w) : AllPos (addf v w) := fun i => by
  obtain ⟨a, ha0, ha⟩ := hv i
  obtain ⟨b, hb0, hb⟩ := hw i
  exact ⟨a + b, add_pos ha0 hb0, by rw [addf, ha, hb, Ideal.addf_def, EReal.coe_add]⟩

/-- The greater of two real numbers is real. -/
theorem AllReal.max {v w : FVec Ideal S .f32} (hv : AllReal v) (hw : AllReal w) : AllReal (maximumf v w) := fun i => by
  rcases max_choice (v i) (w i) with h | h
  · exact (hv i).imp fun r hr => h.trans hr
  · exact (hw i).imp fun r hr => h.trans hr

/-- A product of real matrices is real: each entry is a finite sum of products. -/
theorem AllReal.dot {d : DotDims S T U} {p : Option ContractPrecision} {v : FVec Ideal S .f32} {w : FVec Ideal T .f32}
    (hv : AllReal v) (hw : AllReal w) : AllReal (Host.dotGeneral d p v w : FVec Ideal U .f32) := fun j => by
  obtain ⟨s, hs⟩ := sum_real Finset.univ (fun k : d.contr.Idx => v (d.lhsIdx j k) * w (d.rhsIdx j k)) fun k => by
    obtain ⟨a, ha⟩ := hv (d.lhsIdx j k)
    obtain ⟨b, hb⟩ := hw (d.rhsIdx j k)
    exact ⟨a * b, by rw [ha, hb, EReal.coe_mul]⟩
  exact ⟨s, (zero_add _).trans hs⟩

/-- Summing a real array along some axes, from a real start, gives real numbers. -/
theorem AllReal.sum {axes : List (Fin S.rank)} {hr : S.ReducesTo axes T} {hu : 0 < U.numel} {v : FVec Ideal S .f32}
    {z : FVec Ideal U .f32} (hv : AllReal v) (hz : AllReal z) : AllReal (Host.reduceAdd v z hr hu) := fun j => by
  obtain ⟨s, hs⟩ := sum_real (Finset.univ.filter fun i => hr.drop i = j) v hv
  obtain ⟨a, ha⟩ := hz (Shape.Idx.first hu)
  exact ⟨a + s, by rw [ValueIdx.hostReduceAdd_apply, Ideal.hostReduceAdd, hs, ha, EReal.coe_add]⟩

/-- A real number over a positive one. -/
theorem div_real {a b : ℝ} (hb : 0 < b) : Ideal.div (a : EReal) (b : EReal) = ((a / b : ℝ) : EReal) := by
  rw [Ideal.div_coe hb.ne', ← EReal.coe_mul, mul_one_div]

/-- A real array over a positive one is real. -/
theorem AllReal.div {v w : FVec Ideal S .f32} (hv : AllReal v) (hw : AllPos w) : AllReal (Host.divf v w) := fun i => by
  obtain ⟨a, ha⟩ := hv i
  obtain ⟨b, hb0, hb⟩ := hw i
  exact ⟨a / b, by rw [ValueIdx.hostDivf_apply, ha, hb, div_real hb0]⟩

/-- A positive array over a positive one is positive. -/
theorem AllPos.div {v w : FVec Ideal S .f32} (hv : AllPos v) (hw : AllPos w) : AllPos (Host.divf v w) := fun i => by
  obtain ⟨a, ha0, ha⟩ := hv i
  obtain ⟨b, hb0, hb⟩ := hw i
  exact ⟨a / b, div_pos ha0 hb0, by rw [ValueIdx.hostDivf_apply, ha, hb, div_real hb0]⟩

/-- Negation keeps real numbers real. -/
theorem AllReal.neg {v : FVec Ideal S .f32} (hv : AllReal v) : AllReal (Host.negf v) := fun i => by
  obtain ⟨a, ha⟩ := hv i
  exact ⟨-a, by show -(v i) = _; rw [ha, EReal.coe_neg]⟩

/-- The exponential of a real number is positive. -/
theorem AllPos.exp {v : FVec Ideal S .f32} (hv : AllReal v) : AllPos (Host.exp v) := fun i => by
  obtain ⟨a, ha⟩ := hv i
  exact ⟨Real.exp a, Real.exp_pos a, by show Ideal.exp (v i) = _; rw [ha]; rfl⟩

/-- The square of an extended real is not negative. -/
theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- An extended real whose square is not infinite is a real number. -/
theorem real_of_square {x : EReal} (h : x * x ≠ ⊤) : ∃ r : ℝ, x = (r : EReal) := by
  induction x with
  | bot => exact absurd EReal.bot_mul_bot h
  | top => exact absurd EReal.top_mul_top h
  | coe r => exact ⟨r, rfl⟩

/-- Anything over an infinite divisor is zero. -/
theorem div_top (x : EReal) : Ideal.div x ⊤ = 0 := by
  rw [Ideal.div, if_neg EReal.top_ne_zero, EReal.inv_top, mul_zero]

/-- An entry over the root of the shifted mean square of its fibre is a real number, whatever the entries. If the sum of
    squares is infinite the root is too, and the quotient is zero. Otherwise the entry's own square is not infinite, so the
    entry is a real number, and the root is a positive one. -/
theorem normalised_real {ι : Type} (s : Finset ι) (w : ι → EReal) {i : ι} (hi : i ∈ s) {n e : ℝ} (hn : 0 < n) (he : 0 < e) :
    ∃ r : ℝ, Ideal.div (w i) (Ideal.sqrt (Ideal.div (((0 : ℝ) : EReal) + ∑ k ∈ s, w k * w k) (n : EReal) + (e : EReal))) = (r : EReal) := by
  have h0 : 0 ≤ ∑ k ∈ s, w k * w k := Finset.sum_nonneg fun k _ => square_nonneg (w k)
  have hle : w i * w i ≤ ∑ k ∈ s, w k * w k := Finset.single_le_sum (fun k _ => square_nonneg (w k)) hi
  rw [EReal.coe_zero, zero_add]
  generalize ∑ k ∈ s, w k * w k = t at h0 hle
  induction t with
  | bot => exact absurd h0 (by simp)
  | top =>
    refine ⟨0, ?_⟩
    have hd : Ideal.div (⊤ : EReal) (n : EReal) = ⊤ := by
      rw [Ideal.div_coe hn.ne', EReal.top_mul_coe_of_pos (by positivity)]
    rw [hd, EReal.top_add_coe]
    exact div_top _
  | coe t =>
    obtain ⟨a, ha⟩ := real_of_square (ne_top_of_le_ne_top (EReal.coe_ne_top t) hle)
    have ht : 0 ≤ t := by exact_mod_cast h0
    have hp : 0 < t / n + e := add_pos_of_nonneg_of_pos (div_nonneg ht hn.le) he
    have hs : Ideal.sqrt ((t / n + e : ℝ) : EReal) = ((Real.sqrt (t / n + e) : ℝ) : EReal) := if_neg (not_lt.mpr hp.le)
    rw [div_real hn, ← EReal.coe_add, hs, ha, div_real (Real.sqrt_pos.mpr hp)]
    exact ⟨_, rfl⟩

/-- The variance's guard against an empty count is passed: the count minus zero is greater than zero, so the quotient is
    taken. -/
theorem guarded {K : Shape} {h0 : (⟨0, ![]⟩ : Shape).BroadcastsInDim K ![]} {b : BitVec 32} {n : ℝ}
    (hb : Ideal.ofBits .f32 b = (n : EReal)) (hn : 0 < n) (v w : FVec Ideal K .f32) (i : K.Idx) :
    select (broadcastInDim K ![] h0 (cmpf .ogt
      (subf (constant ⟨0, ![]⟩ .f32 b : FVec Ideal ⟨0, ![]⟩ .f32) (sitofp .f32 (constantI ⟨0, ![]⟩ 32 0#32)))
      (constant ⟨0, ![]⟩ .f32 0x00000000#32))) v w i = v i := by
  have hc : (broadcastInDim K ![] h0 (cmpf .ogt
      (subf (constant ⟨0, ![]⟩ .f32 b : FVec Ideal ⟨0, ![]⟩ .f32) (sitofp .f32 (constantI ⟨0, ![]⟩ 32 0#32)))
      (constant ⟨0, ![]⟩ .f32 0x00000000#32))) i = 1#1 := by
    rw [ValueIdx.broadcastInDim_scalar_apply]
    show Ideal.cmp .ogt (Ideal.ofBits .f32 b - (((0#32).toInt : ℝ) : EReal)) (Ideal.ofBits .f32 0x00000000#32) = 1#1
    rw [hb, Literals.zero, ← EReal.coe_sub]
    have : ((0 : ℝ) : EReal) < ((n - ((0#32).toInt : ℝ) : ℝ) : EReal) := by
      rw [EReal.coe_lt_coe_iff]; simpa using hn
    simp only [Ideal.cmp, decide_eq_true this]
    rfl
  rw [select, hc]
  rfl

/-- The count minus zero, as the variance divides by it. -/
theorem count {b : BitVec 32} {n : ℝ} (hb : Ideal.ofBits .f32 b = (n : EReal)) (i : (⟨0, ![]⟩ : Shape).Idx) :
    subf (constant ⟨0, ![]⟩ .f32 b : FVec Ideal ⟨0, ![]⟩ .f32) (sitofp .f32 (constantI ⟨0, ![]⟩ 32 0#32)) i = (n : EReal) := by
  show Ideal.ofBits .f32 b - (((0#32).toInt : ℝ) : EReal) = _
  rw [hb, ← EReal.coe_sub]
  simp

end

end Cert.Finite

end
-- ==== Proof.Sensor.lean ====
/- The sensor model's arrays are real numbers from the last normalisation on, and every likelihood is a positive one. -/
module

public import proofs.«01_k».proof.Proof.Finite
public import proofs.«01_k».proof.Proof.Gen.ReferenceIdeal.Read

@[expose] public section

set_option maxRecDepth 16384

noncomputable section

namespace Cert.ReferenceIdeal.Sensor

open Cert.ReferenceIdeal Cert.ReferenceIdeal.Gen Cert.ReferenceIdeal.Read Idealize.ShloMosaic Idealize.ShloMosaic.TcCoe Cert.Finite Cert

variable {x0 : FVec Ideal S4x224x224x3 .f32}
variable {x2 : FVec Ideal S7x7x3x128 .f32}
variable {x3 : FVec Ideal S128 .f32}
variable {x4 : FVec Ideal S5x5x128x128 .f32}
variable {x5 : FVec Ideal S128 .f32}
variable {x6 : FVec Ideal S3x3x128x256 .f32}
variable {x7 : FVec Ideal S256 .f32}
variable {x8 : FVec Ideal S3x3x256x256 .f32}
variable {x9 : FVec Ideal S256 .f32}
variable {x10 : FVec Ideal S3x3x256x512 .f32}
variable {x11 : FVec Ideal S512 .f32}
variable {x12 : FVec Ideal S24576x1024 .f32}
variable {x13 : FVec Ideal S1024 .f32}
variable {x14 : FVec Ideal S1024x512 .f32}
variable {x15 : FVec Ideal S512 .f32}
variable {x16 : FVec Ideal S512x128 .f32}
variable {x17 : FVec Ideal S128 .f32}
variable {x18 : FVec Ideal S128x128 .f32}
variable {x19 : FVec Ideal S128 .f32}
variable {x20 : FVec Ideal S128x32 .f32}
variable {x21 : FVec Ideal S32 .f32}
variable {x22 : FVec Ideal S32x1 .f32}
variable {x23 : FVec Ideal S1 .f32}

/-- The channel an entry belongs to, as the broadcast of the variance reads it, is the one the sum over a channel sends it to. -/
theorem channel (i : S4x16x3x512.Idx) :
    idx_main_call19_v10 (idx_main_v203 i) = reducesTo_S4x16x3x512_S512_d0_1_2.drop i := by
  funext a
  match a with
  | ⟨0, _⟩ => rfl

/-- The variance of an entry's channel: the mean of the squared differences from the mean. -/
theorem variance (i : S4x16x3x512.Idx) :
    val_main_v197 (F := Ideal) x0 x2 x3 x4 x5 x6 x7 x8 x9 x10 x11 (idx_main_v203 i)
      = Ideal.div (((0 : ℝ) : EReal) + ∑ k ∈ Finset.univ.filter (fun k =>
            reducesTo_S4x16x3x512_S512_d0_1_2.drop k = reducesTo_S4x16x3x512_S512_d0_1_2.drop i),
          val_main_call19_v5 (F := Ideal) x0 x2 x3 x4 x5 x6 x7 x8 x9 x10 x11 k
            * val_main_call19_v5 (F := Ideal) x0 x2 x3 x4 x5 x6 x7 x8 x9 x10 x11 k) ((192 : ℝ) : EReal) := by
  refine (guarded Literals.count (by norm_num) _ _ _).trans ?_
  rw [val_main_call19_v12_apply, val_main_call19_v10_apply, val_main_call19_v11_apply, channel]
  show Ideal.div _ _ = _
  congr 1
  · show Ideal.ofBits .f32 0x00000000#32 + _ = _
    rw [Literals.zero]
    rfl
  · exact count Literals.count _

/-- What the fifth normalisation returns is real numbers, whatever the image and the convolutions' weights and biases are. -/
theorem norm_real : AllReal (S := S4x16x3x512) (val_main_v204 (F := Ideal) x0 x2 x3 x4 x5 x6 x7 x8 x9 x10 x11) := fun i => by
  obtain ⟨r, hr⟩ := normalised_real (Finset.univ.filter fun k =>
      reducesTo_S4x16x3x512_S512_d0_1_2.drop k = reducesTo_S4x16x3x512_S512_d0_1_2.drop i)
    (val_main_call19_v5 (F := Ideal) x0 x2 x3 x4 x5 x6 x7 x8 x9 x10 x11)
    (i := i) (by simp) (n := 192) (e := 8589935 / 8589934592) (by norm_num) (by norm_num)
  refine ⟨r, Eq.trans ?_ hr⟩
  rw [val_main_v204_apply, val_main_v203_apply, val_main_v202_apply, val_main_v201_apply, variance]
  show Ideal.div _ (Ideal.sqrt (_ + Ideal.ofBits .f32 0x3A83126F#32)) = _
  rw [Literals.shift]
  rfl

/-- The first dense layer of the ensemble head. -/
theorem fc1_real (h12 : AllReal x12) (h13 : AllReal x13) : AllReal (S := S32x1024) (val_main_v214 (F := Ideal) x0 x2 x3 x4 x5 x6 x7 x8 x9 x10 x11 x12 x13) :=
  .max (.add (.dot (.shapeCast (.shapeCast (.broadcast (.broadcast (.shapeCast norm_real))))) h12) (.broadcast (.broadcast h13))) (.broadcast (.const Literals.zero))

/-- The second dense layer. -/
theorem fc2_real (h : AllReal (S := S32x1024) (val_main_v214 (F := Ideal) x0 x2 x3 x4 x5 x6 x7 x8 x9 x10 x11 x12 x13)) (h14 : AllReal x14) (h15 : AllReal x15) : AllReal (S := S32x512) (val_main_v219 (F := Ideal) x0 x2 x3 x4 x5 x6 x7 x8 x9 x10 x11 x12 x13 x14 x15) :=
  .max (.add (.dot h h14) (.broadcast (.broadcast h15))) (.broadcast (.const Literals.zero))

/-- The third dense layer. -/
theorem fc3_real (h : AllReal (S := S32x512) (val_main_v219 (F := Ideal) x0 x2 x3 x4 x5 x6 x7 x8 x9 x10 x11 x12 x13 x14 x15)) (h16 : AllReal x16) (h17 : AllReal x17) : AllReal (S := S32x128) (val_main_v224 (F := Ideal) x0 x2 x3 x4 x5 x6 x7 x8 x9 x10 x11 x12 x13 x14 x15 x16 x17) :=
  .max (.add (.dot h h16) (.broadcast (.broadcast h17))) (.broadcast (.const Literals.zero))

/-- The encoding, the mean over the ensemble. -/
theorem encoding_real (h : AllReal (S := S32x128) (val_main_v224 (F := Ideal) x0 x2 x3 x4 x5 x6 x7 x8 x9 x10 x11 x12 x13 x14 x15 x16 x17)) : AllReal (S := S4x128) (val_main_v228 (F := Ideal) x0 x2 x3 x4 x5 x6 x7 x8 x9 x10 x11 x12 x13 x14 x15 x16 x17) :=
  .div (.sum (.shapeCast h) (.const Literals.zero)) (.broadcast (.const Literals.eight (by norm_num)))

/-- The first layer of the likelihood. -/
theorem like1_real (h : AllReal (S := S4x128) (val_main_v228 (F := Ideal) x0 x2 x3 x4 x5 x6 x7 x8 x9 x10 x11 x12 x13 x14 x15 x16 x17)) (h18 : AllReal x18) (h19 : AllReal x19) : AllReal (S := S262144x128) (val_main_v237 (F := Ideal) x0 x2 x3 x4 x5 x6 x7 x8 x9 x10 x11 x12 x13 x14 x15 x16 x17 x18 x19) :=
  .max (.add (.dot (.shapeCast (.shapeCast (.broadcast (.broadcast h)))) h18) (.broadcast (.broadcast h19))) (.broadcast (.const Literals.zero))

/-- The second layer of the likelihood. -/
theorem like2_real (h : AllReal (S := S262144x128) (val_main_v237 (F := Ideal) x0 x2 x3 x4 x5 x6 x7 x8 x9 x10 x11 x12 x13 x14 x15 x16 x17 x18 x19)) (h20 : AllReal x20) (h21 : AllReal x21) : AllReal (S := S262144x32) (val_main_v242 (F := Ideal) x0 x2 x3 x4 x5 x6 x7 x8 x9 x10 x11 x12 x13 x14 x15 x16 x17 x18 x19 x20 x21) :=
  .max (.add (.dot h h20) (.broadcast (.broadcast h21))) (.broadcast (.const Literals.zero))

/-- The logit. -/
theorem logit_real (h : AllReal (S := S262144x32) (val_main_v242 (F := Ideal) x0 x2 x3 x4 x5 x6 x7 x8 x9 x10 x11 x12 x13 x14 x15 x16 x17 x18 x19 x20 x21)) (h22 : AllReal x22) (h23 : AllReal x23) : AllReal (S := S262144x1) (val_main_v246 (F := Ideal) x0 x2 x3 x4 x5 x6 x7 x8 x9 x10 x11 x12 x13 x14 x15 x16 x17 x18 x19 x20 x21 x22 x23) :=
  .add (.dot h h22) (.broadcast (.broadcast h23))

/-- Where the dense layers' weights and biases are real numbers, every likelihood is a positive one: it is
    one over one plus an exponential. -/
theorem likelihood_pos (h12 : AllReal x12) (h13 : AllReal x13) (h14 : AllReal x14) (h15 : AllReal x15) (h16 : AllReal x16) (h17 : AllReal x17) (h18 : AllReal x18) (h19 : AllReal x19) (h20 : AllReal x20) (h21 : AllReal x21) (h22 : AllReal x22) (h23 : AllReal x23) :
    AllPos (S := S262144x1) (val_main_v252 (F := Ideal) x0 x2 x3 x4 x5 x6 x7 x8 x9 x10 x11 x12 x13 x14 x15 x16 x17 x18 x19 x20 x21 x22 x23) :=
  .div (.broadcast (.const Literals.one (by norm_num))) (.add (.broadcast (.const Literals.one (by norm_num))) (.exp (.neg
    (logit_real (like2_real (like1_real (encoding_real (fc3_real (fc2_real (fc1_real h12 h13) h14 h15) h16 h17)) h18 h19) h20 h21) h22 h23))))

end Cert.ReferenceIdeal.Sensor

end
-- ==== Proof.Batch.lean ====
/- The likelihood of a particle depends on its batch alone: the encoding is one row per batch, repeated for every particle. -/
module

public import proofs.«01_k».proof.Proof.Sensor
public import Idealize.ShloMosaic.Lib.Pipeline.ValueKit

@[expose] public section

set_option maxRecDepth 16384

noncomputable section

namespace Cert.ReferenceIdeal.Sensor

open Cert.ReferenceIdeal Cert.ReferenceIdeal.Gen Cert.ReferenceIdeal.Read Idealize.ShloMosaic Idealize.ShloMosaic.TcCoe

/-- The rows of an array with one row per particle are the same for two particles of one batch. -/
def SameInBatch {k : ℕ} (v : FVec Ideal ⟨2, ![262144, k]⟩ .f32) : Prop :=
  ∀ p q : (⟨2, ![262144, k]⟩ : Shape).Idx, (p 0).val / 65536 = (q 0).val / 65536 → (p 1).val = (q 1).val → v p = v q

section
variable {k : ℕ} {v w : FVec Ideal ⟨2, ![262144, k]⟩ .f32}

/-- Sums keep it. -/
theorem SameInBatch.add (hv : SameInBatch v) (hw : SameInBatch w) : SameInBatch (addf v w) :=
  fun p q h0 h1 => congrArg₂ FloatOps.addf (hv p q h0 h1) (hw p q h0 h1)

/-- Maxima keep it. -/
theorem SameInBatch.max (hv : SameInBatch v) (hw : SameInBatch w) : SameInBatch (maximumf v w) :=
  fun p q h0 h1 => congrArg₂ FloatOps.maximumf (hv p q h0 h1) (hw p q h0 h1)

/-- Quotients keep it. -/
theorem SameInBatch.div (hv : SameInBatch v) (hw : SameInBatch w) : SameInBatch (Host.divf v w) :=
  fun p q h0 h1 => congrArg₂ FloatOps.hostDivf (hv p q h0 h1) (hw p q h0 h1)

/-- The change of sign keeps it. -/
theorem SameInBatch.neg (hv : SameInBatch v) : SameInBatch (Host.negf v) :=
  fun p q h0 h1 => congrArg FloatOps.negf (hv p q h0 h1)

/-- The exponential keeps it. -/
theorem SameInBatch.exp (hv : SameInBatch v) : SameInBatch (Host.exp v) :=
  fun p q h0 h1 => congrArg (FloatOps.hostUnary .exp) (hv p q h0 h1)

/-- A constant has it. -/
theorem SameInBatch.const {h : (⟨0, ![]⟩ : Shape).BroadcastsInDim ⟨2, ![262144, k]⟩ ![]} {x : FVec Ideal ⟨0, ![]⟩ .f32} :
    SameInBatch (broadcastInDim ⟨2, ![262144, k]⟩ ![] h x) := fun p q _ _ => by
  rw [ValueIdx.broadcastInDim_scalar_apply, ValueIdx.broadcastInDim_scalar_apply]

end

variable {x0 : FVec Ideal S4x224x224x3 .f32}
variable {x2 : FVec Ideal S7x7x3x128 .f32}
variable {x3 : FVec Ideal S128 .f32}
variable {x4 : FVec Ideal S5x5x128x128 .f32}
variable {x5 : FVec Ideal S128 .f32}
variable {x6 : FVec Ideal S3x3x128x256 .f32}
variable {x7 : FVec Ideal S256 .f32}
variable {x8 : FVec Ideal S3x3x256x256 .f32}
variable {x9 : FVec Ideal S256 .f32}
variable {x10 : FVec Ideal S3x3x256x512 .f32}
variable {x11 : FVec Ideal S512 .f32}
variable {x12 : FVec Ideal S24576x1024 .f32}
variable {x13 : FVec Ideal S1024 .f32}
variable {x14 : FVec Ideal S1024x512 .f32}
variable {x15 : FVec Ideal S512 .f32}
variable {x16 : FVec Ideal S512x128 .f32}
variable {x17 : FVec Ideal S128 .f32}
variable {x18 : FVec Ideal S128x128 .f32}
variable {x19 : FVec Ideal S128 .f32}
variable {x20 : FVec Ideal S128x32 .f32}
variable {x21 : FVec Ideal S32 .f32}
variable {x22 : FVec Ideal S32x1 .f32}
variable {x23 : FVec Ideal S1 .f32}

/-- The encoding repeated for every particle. -/
theorem encoding_same : SameInBatch (val_main_v232 (F := Ideal) x0 x2 x3 x4 x5 x6 x7 x8 x9 x10 x11 x12 x13 x14 x15 x16 x17) := fun p q h0 h1 => by
  rw [val_main_v232_apply, val_main_v231_apply, val_main_v230_apply, val_main_v229_apply,
    val_main_v232_apply, val_main_v231_apply, val_main_v230_apply, val_main_v229_apply]
  have hp : (p 1).val < 128 := (p 1).isLt
  have hq : (q 1).val < 128 := (q 1).isLt
  have hp0 : (p 0).val < 262144 := (p 0).isLt
  have hq0 : (q 0).val < 262144 := (q 0).isLt
  refine congrArg _ (funext fun a => Fin.ext ?_)
  match a with
  | ⟨0, _⟩ =>
    show ((((p 0).val * 128 + (p 1).val) / 8388608 * 65536 + ((p 0).val * 128 + (p 1).val) / 128 % 65536) * 128
        + ((p 0).val * 128 + (p 1).val) % 128) / 8388608
      = ((((q 0).val * 128 + (q 1).val) / 8388608 * 65536 + ((q 0).val * 128 + (q 1).val) / 128 % 65536) * 128
        + ((q 0).val * 128 + (q 1).val) % 128) / 8388608
    omega
  | ⟨1, _⟩ =>
    show ((((p 0).val * 128 + (p 1).val) / 8388608 * 65536 + ((p 0).val * 128 + (p 1).val) / 128 % 65536) * 128
        + ((p 0).val * 128 + (p 1).val) % 128) % 128
      = ((((q 0).val * 128 + (q 1).val) / 8388608 * 65536 + ((q 0).val * 128 + (q 1).val) / 128 % 65536) * 128
        + ((q 0).val * 128 + (q 1).val) % 128) % 128
    omega

/-- A product of rows with a matrix: the first layer of the likelihood. -/
theorem dot1_same (h : SameInBatch (val_main_v232 (F := Ideal) x0 x2 x3 x4 x5 x6 x7 x8 x9 x10 x11 x12 x13 x14 x15 x16 x17)) : SameInBatch (val_main_v233 (F := Ideal) x0 x2 x3 x4 x5 x6 x7 x8 x9 x10 x11 x12 x13 x14 x15 x16 x17 x18) := fun p q h0 h1 => by
  rw [val_main_v233_apply, val_main_v233_apply]
  refine Finset.sum_congr rfl fun k _ => congrArg₂ (· * ·) (h _ _ h0 rfl) (congrArg x18 (funext fun a => Fin.ext ?_))
  match a with
  | ⟨0, _⟩ => rfl
  | ⟨1, _⟩ => exact h1

/-- The second layer's product. -/
theorem dot2_same (h : SameInBatch (val_main_v237 (F := Ideal) x0 x2 x3 x4 x5 x6 x7 x8 x9 x10 x11 x12 x13 x14 x15 x16 x17 x18 x19)) : SameInBatch (val_main_v238 (F := Ideal) x0 x2 x3 x4 x5 x6 x7 x8 x9 x10 x11 x12 x13 x14 x15 x16 x17 x18 x19 x20) := fun p q h0 h1 => by
  rw [val_main_v238_apply, val_main_v238_apply]
  refine Finset.sum_congr rfl fun k _ => congrArg₂ (· * ·) (h _ _ h0 rfl) (congrArg x20 (funext fun a => Fin.ext ?_))
  match a with
  | ⟨0, _⟩ => rfl
  | ⟨1, _⟩ => exact h1

/-- The logit's product. -/
theorem dot3_same (h : SameInBatch (val_main_v242 (F := Ideal) x0 x2 x3 x4 x5 x6 x7 x8 x9 x10 x11 x12 x13 x14 x15 x16 x17 x18 x19 x20 x21)) : SameInBatch (val_main_v243 (F := Ideal) x0 x2 x3 x4 x5 x6 x7 x8 x9 x10 x11 x12 x13 x14 x15 x16 x17 x18 x19 x20 x21 x22) := fun p q h0 h1 => by
  rw [val_main_v243_apply, val_main_v243_apply]
  refine Finset.sum_congr rfl fun k _ => congrArg₂ (· * ·) (h _ _ h0 rfl) (congrArg x22 (funext fun a => Fin.ext ?_))
  match a with
  | ⟨0, _⟩ => rfl
  | ⟨1, _⟩ => exact h1

/-- The first layer's bias, one row for every particle. -/
theorem bias1_same : SameInBatch (val_main_v235 (F := Ideal) x19) := fun p q h0 h1 => by
  rw [val_main_v235_apply, val_main_v234_apply, val_main_v235_apply, val_main_v234_apply]
  refine congrArg x19 (funext fun a => Fin.ext ?_)
  match a with
  | ⟨0, _⟩ => exact h1

/-- The second layer's bias. -/
theorem bias2_same : SameInBatch (val_main_v240 (F := Ideal) x21) := fun p q h0 h1 => by
  rw [val_main_v240_apply, val_main_v239_apply, val_main_v240_apply, val_main_v239_apply]
  refine congrArg x21 (funext fun a => Fin.ext ?_)
  match a with
  | ⟨0, _⟩ => exact h1

/-- The logit's bias. -/
theorem bias3_same : SameInBatch (val_main_v245 (F := Ideal) x23) := fun p q h0 h1 => by
  rw [val_main_v245_apply, val_main_v244_apply, val_main_v245_apply, val_main_v244_apply]

/-- The first layer, cut off below at zero. -/
theorem like1_same : SameInBatch (val_main_v237 (F := Ideal) x0 x2 x3 x4 x5 x6 x7 x8 x9 x10 x11 x12 x13 x14 x15 x16 x17 x18 x19) := .max (.add (dot1_same encoding_same) bias1_same) .const

/-- The second layer, cut off below at zero. -/
theorem like2_same : SameInBatch (val_main_v242 (F := Ideal) x0 x2 x3 x4 x5 x6 x7 x8 x9 x10 x11 x12 x13 x14 x15 x16 x17 x18 x19 x20 x21) := .max (.add (dot2_same like1_same) bias2_same) .const

/-- The likelihood. -/
theorem likelihood_same : SameInBatch (val_main_v252 (F := Ideal) x0 x2 x3 x4 x5 x6 x7 x8 x9 x10 x11 x12 x13 x14 x15 x16 x17 x18 x19 x20 x21 x22 x23) :=
  .div .const (.add .const (.exp (.neg (.add (dot3_same like2_same) bias3_same))))

/-- Where the image and the sensor model's weights and biases are real numbers, the likelihoods of all the particles of a batch
    are one positive real number. -/
theorem likelihood_row (h12 : Finite.AllReal x12) (h13 : Finite.AllReal x13) (h14 : Finite.AllReal x14) (h15 : Finite.AllReal x15) (h16 : Finite.AllReal x16) (h17 : Finite.AllReal x17) (h18 : Finite.AllReal x18) (h19 : Finite.AllReal x19) (h20 : Finite.AllReal x20) (h21 : Finite.AllReal x21) (h22 : Finite.AllReal x22) (h23 : Finite.AllReal x23) (b : Fin 4) : ∃ s : ℝ, 0 < s ∧ ∀ n : Fin 65536, val_main_v253 (F := Ideal) x0 x2 x3 x4 x5 x6 x7 x8 x9 x10 x11 x12 x13 x14 x15 x16 x17 x18 x19 x20 x21 x22 x23 (ix2 b n) = (s : EReal) := by
  obtain ⟨s, hs0, hs⟩ := likelihood_pos h12 h13 h14 h15 h16 h17 h18 h19 h20 h21 h22 h23 (ix2 ⟨b.val * 65536, by omega⟩ 0)
  refine ⟨s, hs0, fun n => ?_⟩
  rw [val_main_v253_apply, ← hs]
  refine likelihood_same _ _ ?_ rfl
  show (b.val * 65536 + n.val) / 1 / 65536 = b.val * 65536 / 65536
  omega

end Cert.ReferenceIdeal.Sensor

end
-- ==== Proof.Count.lean ====
/- Sums over a last axis as counts: the integer sum of a 0/1 array, and the running sum of a constant row. -/
module

public import Idealize.ShloMosaic.Lib.Pipeline.ValueKit
public import Idealize.ShloMosaic.Lib.StableHlo
public import Idealize.ShloMosaic.PureOps.Ideal.Laws
public import Mathlib.Data.BitVec

@[expose] public section

noncomputable section

namespace Cert.Count

open Idealize.ShloMosaic

/-- The host's integer sum over the last of three axes, from an initial zero. -/
theorem reduce_last {n0 n1 n2 : ℕ} {u : Shape} (h : (⟨3, ![n0, n1, n2]⟩ : Shape).ReducesTo [2] ⟨2, ![n0, n1]⟩) (hu : 0 < u.numel)
    (x : IVec ⟨3, ![n0, n1, n2]⟩ 32) (z : IVec u 32) (hz : z (Shape.Idx.first hu) = 0#32) (a : Fin n0) (b : Fin n1) :
    Host.reduce IntOp.addi x z h hu (ix2 a b) = ∑ k : Fin n2, x (ix3 a b k) := by
  rw [Host.reduce_eq_fold, h.fold_fiber_r3_a2, hz, Finset.sum_eq_fold]
  rfl

/-- As many 32-bit ones as there are numbers below `i` sum to `i`. -/
theorem sum_below {n : ℕ} (i : Fin n) (x : Fin n → BitVec 32) (hx : ∀ k, x k = if k < i then 1#32 else 0#32) :
    ∑ k : Fin n, x k = BitVec.ofNat 32 i.val := by
  rw [Finset.sum_congr rfl fun k _ => hx k]
  have h := Finset.sum_boole (R := BitVec 32) (fun k : Fin n => k < i) Finset.univ
  have hc : (Finset.univ.filter fun k : Fin n => k < i).card = i.val := by
    rw [← Fin.card_Iio]
    exact congrArg Finset.card (by ext k; simp)
  rw [hc] at h
  exact h

/-- A left fold that adds a function of the position is the start plus the sum. -/
theorem foldl_add {M : Type} [AddCommMonoid M] {m : ℕ} (g : Fin m → M) (v : M) :
    (List.finRange m).foldl (fun r k => r + g k) v = v + ∑ k : Fin m, g k := by
  rw [Fin.sum_univ_def]
  generalize List.finRange m = l
  induction l generalizing v with
  | nil => simp
  | cons k l ih => rw [List.foldl_cons, ih, List.map_cons, List.sum_cons, add_assoc]

/-- Of the `n` positions of a window that ends at place `j`, those inside the row are `j + 1` in number. -/
theorem card_window {n : ℕ} (j : Fin n) : (Finset.univ.filter fun w : Fin n => n - 1 ≤ j.val + w.val).card = j.val + 1 := by
  have h : (Finset.univ.filter fun w : Fin n => n - 1 ≤ j.val + w.val) = Finset.Ici ⟨n - 1 - j.val, by omega⟩ := by
    ext w
    simp only [Finset.mem_filter, Finset.mem_univ, true_and, Finset.mem_Ici, Fin.le_def]
    omega
  rw [h, Fin.card_Ici]
  simp only
  omega

/-- The host's running sum along the rows of an array whose rows are constant: the `j`-th sum of row `b` is `j + 1` times the
    row's constant. -/
theorem cumsum_const {m n : ℕ} {u : Shape}
    (h : (⟨2, ![m, n]⟩ : Shape).ReduceWindows ![1, n] ![1, 1] ![0, n - 1] ![0, 0] ⟨2, ![m, n]⟩) (hu : 0 < u.numel)
    (x : FVec Ideal ⟨2, ![m, n]⟩ .f32) (z : FVec Ideal u .f32) (hz : z (Shape.Idx.first hu) = 0) (c : Fin m → ℝ)
    (hx : ∀ b j, x (ix2 b j) = (c b : EReal)) (b : Fin m) (j : Fin n) :
    Host.reduceWindowAdd ![1, n] ![1, 1] ![0, n - 1] ![0, 0] x z h hu (ix2 b j) = (((j.val + 1 : ℕ) * c b : ℝ) : EReal) := by
  have hx' : ∀ i : (⟨2, ![m, n]⟩ : Shape).Idx, x i = (c (i 0) : EReal) := fun i => by
    rw [← hx (i 0) (i 1), ix2_eta]
  show Ideal.hostReduceWindowAdd ![1, n] ![1, 1] ![0, n - 1] ![0, 0] h x (z (Shape.Idx.first hu)) (ix2 b j) = _
  rw [hz]
  unfold Ideal.hostReduceWindowAdd Host.reduceWindow
  simp only
  rw [foldl_add, zero_add]
  refine (Finset.sum_congr rfl fun k _ => ?_).trans ((Equiv.sum_comp (Shape.rowMajor ⟨2, ![1, n]⟩).symm
    (fun w : (⟨2, ![1, n]⟩ : Shape).Idx => if n - 1 ≤ j.val + (w 1).val then (c b : EReal) else 0)).trans ?_)
  · have hw0 : ((Shape.rowMajor ⟨2, ![1, n]⟩).symm k 0).val = 0 := Nat.lt_one_iff.mp ((Shape.rowMajor ⟨2, ![1, n]⟩).symm k 0).isLt
    have hw1 : ((Shape.rowMajor ⟨2, ![1, n]⟩).symm k 1).val < n := ((Shape.rowMajor ⟨2, ![1, n]⟩).symm k 1).isLt
    by_cases hc : n - 1 ≤ j.val + ((Shape.rowMajor ⟨2, ![1, n]⟩).symm k 1).val
    · rw [if_pos hc, dif_pos, hx']
      · refine congrArg (fun q => (c q : EReal)) (Fin.ext ?_)
        show b.val * 1 + ((Shape.rowMajor ⟨2, ![1, n]⟩).symm k 0).val - 0 = b.val
        omega
      · intro a
        match a with
        | ⟨0, _⟩ =>
          show 0 ≤ b.val * 1 + ((Shape.rowMajor ⟨2, ![1, n]⟩).symm k 0).val ∧ b.val * 1 + ((Shape.rowMajor ⟨2, ![1, n]⟩).symm k 0).val - 0 < m
          omega
        | ⟨1, _⟩ =>
          show n - 1 ≤ j.val * 1 + ((Shape.rowMajor ⟨2, ![1, n]⟩).symm k 1).val ∧ j.val * 1 + ((Shape.rowMajor ⟨2, ![1, n]⟩).symm k 1).val - (n - 1) < n
          omega
    · rw [if_neg hc, dif_neg]
      intro hin
      have h1 : n - 1 ≤ j.val * 1 + ((Shape.rowMajor ⟨2, ![1, n]⟩).symm k 1).val := (hin 1).1
      omega
  · rw [sum_idx2, Fin.sum_univ_one, ← Finset.sum_filter]
    simp only [ix2_1, Finset.sum_const]
    rw [← EReal.coe_nsmul, nsmul_eq_mul]
    exact congrArg (fun q : ℕ => ((q * c b : ℝ) : EReal)) (card_window j)

end Cert.Count

end
-- ==== Proof.TakeAlong.lean ====
/- Taking rows along the middle of three axes, each batch by its own list of row numbers, where the list is 0, 1, 2, …. -/
module

public import Idealize.ShloMosaic.Lib.Pipeline.ValueKit
public import Idealize.ShloMosaic.Lib.StableHlo

@[expose] public section

noncomputable section

namespace Cert.TakeAlong

open Idealize.ShloMosaic

/-- The dimension numbers of the lookup: batches on the first axis, rows on the second, whole rows of the last axis taken. -/
abbrev dims (B N D : ℕ) (wf : GatherDims.WF ⟨3, ![B, N, D]⟩ ⟨3, ![B, N, 1]⟩ ⟨3, ![B, N, D]⟩ [2] [1] [0] [1] [0] 2 ![1, 1, D]) :
    GatherDims ⟨3, ![B, N, D]⟩ ⟨3, ![B, N, 1]⟩ ⟨3, ![B, N, D]⟩ where
  offsetDims := [2]
  collapsedSliceDims := [1]
  operandBatchingDims := [0]
  startIndicesBatchingDims := [0]
  startIndexMap := [1]
  indexVectorDim := 2
  sliceSizes := ![1, 1, D]
  wf := wf

/-- Where the row number asked for at row `n` of batch `b` is `n` itself, the lookup gives that row back. -/
theorem same {α : Type} {B N D w : ℕ}
    (wf : GatherDims.WF ⟨3, ![B, N, D]⟩ ⟨3, ![B, N, 1]⟩ ⟨3, ![B, N, D]⟩ [2] [1] [0] [1] [0] 2 ![1, 1, D])
    (x : (⟨3, ![B, N, D]⟩ : Shape).Idx → α) (idx : IVec ⟨3, ![B, N, 1]⟩ w) (b : Fin B) (n : Fin N) (d : Fin D)
    (h : (idx (ix3 b n 0)).toInt = n.val) : Host.gather (dims B N D wf) x idx (ix3 b n d) = x (ix3 b n d) := by
  unfold Host.gather
  congr 1
  funext a
  refine Fin.ext ?_
  show (dims B N D wf).start (ix3 b n d) idx a + (dims B N D wf).batchCoord (ix3 b n d) a
    + (dims B N D wf).offCoord (ix3 b n d) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (List.mem_singleton.mpr rfl)]
    rfl
  · rw [GatherDims.batchCoord_eq_zero _ _ _ (fun h => absurd (List.mem_singleton.mp h) (show ¬ (1 : Fin 3) = 0 by decide)),
      GatherDims.offCoord_eq_zero _ _ _ (fun h => ((GatherDims.mem_sKept _ _).mp h).1 (List.mem_singleton.mpr rfl)),
      Nat.add_zero]
    unfold GatherDims.start
    rw [dif_pos (show (1 : Fin 3) ∈ (dims B N D wf).startIndexMap from List.mem_singleton.mpr rfl)]
    have hsi : (dims B N D wf).siIdx (ix3 b n d) ⟨List.idxOf (1 : Fin 3) (dims B N D wf).startIndexMap,
        List.idxOf_lt_length_iff.2 (List.mem_singleton.mpr rfl)⟩ = ix3 b n 0 := by
      funext e
      refine Fin.ext ?_
      match e with
      | ⟨0, _⟩ => rfl
      | ⟨1, _⟩ => rfl
      | ⟨2, _⟩ => rfl
    rw [hsi, h]
    show min n.val (N - 1) = n.val
    have := n.isLt
    omega
  · rw [GatherDims.batchCoord_eq_zero _ _ _ (fun h => absurd (List.mem_singleton.mp h) (show ¬ (2 : Fin 3) = 0 by decide))]
    unfold GatherDims.start
    rw [dif_neg (show (2 : Fin 3) ∉ (dims B N D wf).startIndexMap from
      fun h => absurd (List.mem_singleton.mp h) (show ¬ (2 : Fin 3) = 1 by decide)), Nat.zero_add]
    rfl

end Cert.TakeAlong

end
-- ==== Proof.Resample.lean ====
/- What resampling does where every particle of a batch has one positive likelihood: the weights are all 1/65536, their running
   sums are (n+1)/65536, exactly i of them lie below (i+1/2)/65536, and the row taken at i is row i. -/
module

public import proofs.«01_k».proof.Proof.Gen.ReferenceIdeal.Read
public import proofs.«01_k».proof.Proof.Finite
public import proofs.«01_k».proof.Proof.Literals
public import proofs.«01_k».proof.Proof.Count
public import proofs.«01_k».proof.Proof.TakeAlong

@[expose] public section

noncomputable section

namespace Cert.ReferenceIdeal.Resample

open Idealize.ShloMosaic Cert.ReferenceIdeal.Read Cert.ReferenceIdeal.Gen

variable {x0 : FVec Ideal S4x224x224x3 .f32}
variable {x2 : FVec Ideal S7x7x3x128 .f32}
variable {x3 : FVec Ideal S128 .f32}
variable {x4 : FVec Ideal S5x5x128x128 .f32}
variable {x5 : FVec Ideal S128 .f32}
variable {x6 : FVec Ideal S3x3x128x256 .f32}
variable {x7 : FVec Ideal S256 .f32}
variable {x8 : FVec Ideal S3x3x256x256 .f32}
variable {x9 : FVec Ideal S256 .f32}
variable {x10 : FVec Ideal S3x3x256x512 .f32}
variable {x11 : FVec Ideal S512 .f32}
variable {x12 : FVec Ideal S24576x1024 .f32}
variable {x13 : FVec Ideal S1024 .f32}
variable {x14 : FVec Ideal S1024x512 .f32}
variable {x15 : FVec Ideal S512 .f32}
variable {x16 : FVec Ideal S512x128 .f32}
variable {x17 : FVec Ideal S128 .f32}
variable {x18 : FVec Ideal S128x128 .f32}
variable {x19 : FVec Ideal S128 .f32}
variable {x20 : FVec Ideal S128x32 .f32}
variable {x21 : FVec Ideal S32 .f32}
variable {x22 : FVec Ideal S32x1 .f32}
variable {x23 : FVec Ideal S1 .f32}

/-- Every particle of every batch has its batch's one positive likelihood. -/
def OneLikelihood (v : FVec Ideal S4x65536 .f32) : Prop :=
  ∀ b : Fin 4, ∃ s : ℝ, 0 < s ∧ ∀ n : Fin 65536, v (ix2 b n) = (s : EReal)

/-- The likelihoods of a batch add up to 65536 times the one likelihood. -/
theorem total {b : Fin 4} {s : ℝ} (h : ∀ n : Fin 65536, val_main_v253 (F := Ideal) x0 x2 x3 x4 x5 x6 x7 x8 x9 x10 x11 x12 x13 x14 x15 x16 x17 x18 x19 x20 x21 x22 x23 (ix2 b n) = (s : EReal)) :
    val_main_v254 (F := Ideal) x0 x2 x3 x4 x5 x6 x7 x8 x9 x10 x11 x12 x13 x14 x15 x16 x17 x18 x19 x20 x21 x22 x23 (ix1 b) = ((65536 * s : ℝ) : EReal) := by
  rw [val_main_v254_apply]
  have hk : ∀ k : Fin 65536, val_main_v253 (F := Ideal) x0 x2 x3 x4 x5 x6 x7 x8 x9 x10 x11 x12 x13 x14 x15 x16 x17 x18 x19 x20 x21 x22 x23 (idx_main_v254 (ix1 b) k) = (s : EReal) := fun k => by
    rw [← h k]
    refine congrArg _ (funext fun a => ?_)
    match a with
    | ⟨0, _⟩ => rfl
    | ⟨1, _⟩ => rfl
  have h0 : ∀ i, val_main_cst_32 (F := Ideal) i = ((0 : ℝ) : EReal) := fun _ => Literals.zero
  rw [Finset.sum_congr rfl fun k _ => hk k, h0, Finset.sum_const, Finset.card_univ, Fintype.card_fin,
    ← EReal.coe_nsmul, ← EReal.coe_add, zero_add, nsmul_eq_mul]
  norm_num

/-- Every weight is 1/65536. -/
theorem weight (h : OneLikelihood (val_main_v253 (F := Ideal) x0 x2 x3 x4 x5 x6 x7 x8 x9 x10 x11 x12 x13 x14 x15 x16 x17 x18 x19 x20 x21 x22 x23)) (b : Fin 4) (n : Fin 65536) : val_main_v257 (F := Ideal) x0 x2 x3 x4 x5 x6 x7 x8 x9 x10 x11 x12 x13 x14 x15 x16 x17 x18 x19 x20 x21 x22 x23 (ix2 b n) = ((1 / 65536 : ℝ) : EReal) := by
  obtain ⟨s, hs0, hs⟩ := h b
  rw [val_main_v257_apply, hs, val_main_v256_apply, val_main_v255_apply]
  have hi : idx_main_v255 (idx_main_v256 (ix2 b n)) = ix1 b := by
    funext a
    match a with
    | ⟨0, _⟩ => rfl
  rw [hi, total hs]
  refine (Finite.div_real (by positivity)).trans ?_
  congr 1
  field_simp

/-- The running sum of the weights at `n` is (n+1)/65536. -/
theorem running (h : OneLikelihood (val_main_v253 (F := Ideal) x0 x2 x3 x4 x5 x6 x7 x8 x9 x10 x11 x12 x13 x14 x15 x16 x17 x18 x19 x20 x21 x22 x23)) (b : Fin 4) (n : Fin 65536) :
    val_main_v276 (F := Ideal) x0 x2 x3 x4 x5 x6 x7 x8 x9 x10 x11 x12 x13 x14 x15 x16 x17 x18 x19 x20 x21 x22 x23 (ix2 b n) = ((((n.val + 1 : ℕ) : ℝ) * (1 / 65536) : ℝ) : EReal) := by
  have h0 : val_main_call27_call0_v0 (F := Ideal) (Shape.Idx.first h_S_) = (0 : EReal) := by
    rw [val_main_call27_call0_v0_apply]
    exact Literals.zero.trans EReal.coe_zero
  exact Count.cumsum_const (m := 4) (n := 65536) reduceWindows_S4x65536_S4x65536_w1s1p0_0_w65536s1p65535_0 h_S_ _ _ h0
    (fun _ => 1 / 65536) (fun b j => weight h b j) b n

/-- The last running sum is 1, so dividing by it changes nothing. -/
theorem share (h : OneLikelihood (val_main_v253 (F := Ideal) x0 x2 x3 x4 x5 x6 x7 x8 x9 x10 x11 x12 x13 x14 x15 x16 x17 x18 x19 x20 x21 x22 x23)) (b : Fin 4) (n : Fin 65536) :
    val_main_v279 (F := Ideal) x0 x2 x3 x4 x5 x6 x7 x8 x9 x10 x11 x12 x13 x14 x15 x16 x17 x18 x19 x20 x21 x22 x23 (ix2 b n) = (((n.val + 1 : ℝ) / 65536 : ℝ) : EReal) := by
  rw [val_main_v279_apply, val_main_v278_apply, val_main_v277_apply, running h]
  have hi : idx_main_v277 (idx_main_v278 (ix2 b n)) = ix2 b ⟨65535, by omega⟩ := by
    funext a
    match a with
    | ⟨0, _⟩ => rfl
    | ⟨1, _⟩ => rfl
  rw [hi, running h]
  refine (Finite.div_real (by norm_num)).trans ?_
  congr 1
  push_cast
  norm_num
  ring

/-- The numbers 0, 1, 2, … as 32-bit integers, read back. -/
theorem toInt_small (n : Fin 65536) : (BitVec.ofNat 32 n.val).toInt = n.val := by
  have := n.isLt
  rw [BitVec.toInt_eq_toNat_of_lt, BitVec.toNat_ofNat, Nat.mod_eq_of_lt (by omega)]
  rw [BitVec.toNat_ofNat, Nat.mod_eq_of_lt (by omega)]
  omega

/-- The comparison level of row `i` is (i+1/2)/65536. -/
theorem level (i : Fin 65536) : val_main_v284 (F := Ideal) (ix1 i) = (((i.val + 1 / 2 : ℝ) / 65536 : ℝ) : EReal) := by
  have h0 : val_main_v280 (F := Ideal) (ix1 i) = ((i.val : ℝ) : EReal) := by
    show (((BitVec.ofNat 32 i.val).toInt : ℝ) : EReal) = _
    rw [toInt_small]
    norm_num
  have h1 : val_main_v281 (F := Ideal) (ix1 i) = ((1 / 2 : ℝ) : EReal) := Literals.half
  have h2 : val_main_v283 (F := Ideal) (ix1 i) = ((65536 : ℝ) : EReal) := Literals.particles
  rw [val_main_v284_apply, val_main_v282_apply, h0, h1, h2]
  exact Finite.div_real (by norm_num)

/-- The running sum at `j` lies below the level of row `i` exactly when `j < i`. -/
theorem below (h : OneLikelihood (val_main_v253 (F := Ideal) x0 x2 x3 x4 x5 x6 x7 x8 x9 x10 x11 x12 x13 x14 x15 x16 x17 x18 x19 x20 x21 x22 x23)) (b : Fin 4) (i j : Fin 65536) :
    val_main_v291 (F := Ideal) x0 x2 x3 x4 x5 x6 x7 x8 x9 x10 x11 x12 x13 x14 x15 x16 x17 x18 x19 x20 x21 x22 x23 (ix3 b i j) = if j < i then 1#32 else 0#32 := by
  have h1 : val_main_v288 (F := Ideal) x0 x2 x3 x4 x5 x6 x7 x8 x9 x10 x11 x12 x13 x14 x15 x16 x17 x18 x19 x20 x21 x22 x23 (ix3 b i j) = (((j.val + 1 : ℝ) / 65536 : ℝ) : EReal) := by
    rw [val_main_v288_apply, val_main_v286_apply, ← share h b j]
    refine congrArg _ (funext fun a => ?_)
    match a with
    | ⟨0, _⟩ => rfl
    | ⟨1, _⟩ => rfl
  have h2 : val_main_v289 (F := Ideal) (ix3 b i j) = (((i.val + 1 / 2 : ℝ) / 65536 : ℝ) : EReal) := by
    rw [val_main_v289_apply, val_main_v287_apply, val_main_v285_apply, ← level i]
    refine congrArg _ (funext fun a => ?_)
    match a with
    | ⟨0, _⟩ => rfl
  rw [val_main_v291_apply, val_main_v290_apply, h1, h2]
  show BitVec.setWidth 32 (BitVec.ofBool (decide (_ < _))) = _
  have hlt : ((((j.val + 1 : ℝ) / 65536 : ℝ) : EReal) < (((i.val + 1 / 2 : ℝ) / 65536 : ℝ) : EReal)) ↔ j < i := by
    rw [EReal.coe_lt_coe_iff, div_lt_div_iff_of_pos_right (by norm_num), Fin.lt_def]
    constructor
    · intro hh
      have : (j.val : ℝ) < i.val := by linarith
      exact_mod_cast this
    · intro hh
      have : ((j.val + 1 : ℕ) : ℝ) ≤ i.val := by exact_mod_cast hh
      push_cast at this
      linarith
  by_cases hji : j < i
  · rw [decide_eq_true (hlt.mpr hji), if_pos hji]
    rfl
  · rw [decide_eq_false (fun hh => hji (hlt.mp hh)), if_neg hji]
    rfl

/-- So the number of running sums below the level of row `i` is `i`. -/
theorem number (h : OneLikelihood (val_main_v253 (F := Ideal) x0 x2 x3 x4 x5 x6 x7 x8 x9 x10 x11 x12 x13 x14 x15 x16 x17 x18 x19 x20 x21 x22 x23)) (b : Fin 4) (i : Fin 65536) : val_main_v292 (F := Ideal) x0 x2 x3 x4 x5 x6 x7 x8 x9 x10 x11 x12 x13 x14 x15 x16 x17 x18 x19 x20 x21 x22 x23 (ix2 b i) = BitVec.ofNat 32 i.val :=
  (Count.reduce_last (n0 := 4) (n1 := 65536) (n2 := 65536) reducesTo_S4x65536x65536_S4x65536_d2 h_S_ _ _ rfl b i).trans
    (Count.sum_below i _ fun j => below h b i j)

/-- Holding a number below 65536 between 0 and 65535 leaves it alone. -/
theorem held (n : Fin 65536) : IntOp.minsi 65535#32 (IntOp.maxsi 0#32 (BitVec.ofNat 32 n.val)) = BitVec.ofNat 32 n.val := by
  have hn := n.isLt
  have ht := toInt_small n
  have h0 : IntOp.maxsi 0#32 (BitVec.ofNat 32 n.val) = BitVec.ofNat 32 n.val := by
    unfold IntOp.maxsi
    split
    · rename_i hh
      rw [BitVec.slt_iff_toInt_lt, ht, BitVec.toInt_zero] at hh
      omega
    · rfl
  rw [h0]
  unfold IntOp.minsi
  split
  · rename_i hh
    rw [BitVec.slt_iff_toInt_lt, ht] at hh
    have : (65535#32).toInt = 65535 := by decide
    omega
  · rfl

/-- A number below 65536 is not negative, so it is not moved up by 65536. -/
theorem unmoved (n : Fin 65536) (z : BitVec 32) :
    Scalar.select (IntOp.cmpi .slt (BitVec.ofNat 32 n.val) 0#32) z (BitVec.ofNat 32 n.val) = BitVec.ofNat 32 n.val := by
  have h : IntOp.cmpi .slt (BitVec.ofNat 32 n.val) 0#32 = 0#1 := by
    show BitVec.ofBool ((BitVec.ofNat 32 n.val).slt 0#32) = 0#1
    rw [BitVec.slt_eq_decide, toInt_small, BitVec.toInt_zero, decide_eq_false (by omega)]
    rfl
  rw [h]
  rfl

/-- The row taken at row `n` is row `n`. -/
theorem taken (h : OneLikelihood (val_main_v253 (F := Ideal) x0 x2 x3 x4 x5 x6 x7 x8 x9 x10 x11 x12 x13 x14 x15 x16 x17 x18 x19 x20 x21 x22 x23)) (b : Fin 4) (n : Fin 65536) :
    val_main_call29_v4 (F := Ideal) x0 x2 x3 x4 x5 x6 x7 x8 x9 x10 x11 x12 x13 x14 x15 x16 x17 x18 x19 x20 x21 x22 x23 (ix3 b n 0) = BitVec.ofNat 32 n.val := by
  have h1 : val_main_v294 (F := Ideal) x0 x2 x3 x4 x5 x6 x7 x8 x9 x10 x11 x12 x13 x14 x15 x16 x17 x18 x19 x20 x21 x22 x23 (ix3 b n 0) = BitVec.ofNat 32 n.val := by
    have hi : idx_main_v294 (ix3 b n 0) = ix2 b n := by
      funext a
      match a with
      | ⟨0, _⟩ => rfl
      | ⟨1, _⟩ => rfl
    rw [val_main_v294_apply, hi, val_main_v293_apply, val_main_call28_v2_apply, number h]
    exact held n
  rw [val_main_call29_v4_apply, val_main_call29_v1_apply, h1]
  exact unmoved n _

/-- Where the likelihood is one positive number in each batch, resampling gives back the array it is handed. -/
theorem resampled (h : OneLikelihood (val_main_v253 (F := Ideal) x0 x2 x3 x4 x5 x6 x7 x8 x9 x10 x11 x12 x13 x14 x15 x16 x17 x18 x19 x20 x21 x22 x23)) (v : FVec Ideal S4x65536x2 .f32) (b : Fin 4) (n : Fin 65536) (d : Fin 2) :
    Host.gather gather_S4x65536x2_S4x65536x1_S4x65536x2_2_1_0_0_1_2_112 v (val_main_call29_v4 (F := Ideal) x0 x2 x3 x4 x5 x6 x7 x8 x9 x10 x11 x12 x13 x14 x15 x16 x17 x18 x19 x20 x21 x22 x23) (ix3 b n d) = v (ix3 b n d) :=
  TakeAlong.same (B := 4) (N := 65536) (D := 2) gather_S4x65536x2_S4x65536x1_S4x65536x2_2_1_0_0_1_2_112_wf v _ b n d
    (by rw [taken h]; exact toInt_small n)

end Cert.ReferenceIdeal.Resample

end
-- ==== Proof.Particle.lean ====
/- One particle through the process model: the two hidden layers and the bounded step, as a function of its two coordinates
   and of the model's arrays, on the extended reals. Both programs are read down to this function. -/
module

public import Idealize.ShloMosaic.Lib.Pipeline.ValueKit

@[expose] public section

noncomputable section

namespace Cert.Particle

open Idealize.ShloMosaic

/-- Unit `k` of the first hidden layer at a particle `x`: the rectified affine form. -/
def hidden1 (w1 : FVec Ideal ⟨2, ![2, 32]⟩ .f32) (b1 : FVec Ideal ⟨1, ![32]⟩ .f32) (x : Fin 2 → EReal) (k : Fin 32) : EReal :=
  max (∑ e : Fin 2, x e * w1 (ix2 e k) + b1 (ix1 k)) 0

/-- Unit `j` of the second hidden layer over the units `h` of the first. -/
def hidden2 (w2 : FVec Ideal ⟨2, ![32, 64]⟩ .f32) (b2 : FVec Ideal ⟨1, ![64]⟩ .f32) (h : Fin 32 → EReal) (j : Fin 64) : EReal :=
  max (∑ k : Fin 32, h k * w2 (ix2 k j) + b2 (ix1 j)) 0

/-- Coordinate `d` of the step over the units `h` of the second hidden layer. -/
def step (w3 : FVec Ideal ⟨2, ![64, 2]⟩ .f32) (b3 : FVec Ideal ⟨1, ![2]⟩ .f32) (h : Fin 64 → EReal) (d : Fin 2) : EReal :=
  Ideal.tanh (∑ j : Fin 64, h j * w3 (ix2 j d) + b3 (ix1 d))

/-- Coordinate `d` of the particle `x` moved by its step. -/
def moved (w1 : FVec Ideal ⟨2, ![2, 32]⟩ .f32) (b1 : FVec Ideal ⟨1, ![32]⟩ .f32) (w2 : FVec Ideal ⟨2, ![32, 64]⟩ .f32)
    (b2 : FVec Ideal ⟨1, ![64]⟩ .f32) (w3 : FVec Ideal ⟨2, ![64, 2]⟩ .f32) (b3 : FVec Ideal ⟨1, ![2]⟩ .f32)
    (x : Fin 2 → EReal) (d : Fin 2) : EReal :=
  x d + step w3 b3 (hidden2 w2 b2 (hidden1 w1 b1 x)) d

end Cert.Particle

end
-- ==== Proof.ProcessModel.lean ====
/- The reference's process model, read one particle at a time: it is the particle function. -/
module

public import proofs.«01_k».proof.Proof.Gen.ReferenceIdeal.Read
public import proofs.«01_k».proof.Proof.Literals
public import proofs.«01_k».proof.Proof.Particle

@[expose] public section

noncomputable section

namespace Cert.ReferenceIdeal.ProcessModel

open Idealize.ShloMosaic Cert.ReferenceIdeal.Read Cert.ReferenceIdeal.Gen Cert.Particle

variable {x1 : FVec Ideal S4x65536x2 .f32} {x24 : FVec Ideal S2x32 .f32} {x25 : FVec Ideal S32 .f32}
  {x26 : FVec Ideal S32x64 .f32} {x27 : FVec Ideal S64 .f32} {x28 : FVec Ideal S64x2 .f32} {x29 : FVec Ideal S2 .f32}

/-- The row of the flattened particles at which particle `n` of batch `b` stands. -/
abbrev row (b : Fin 4) (n : Fin 65536) : Fin 262144 := ⟨b.val * 65536 + n.val, by omega⟩

/-- The flattened particles at that row. -/
theorem particle_row (b : Fin 4) (n : Fin 65536) (e : Fin 2) :
    val_main_v258 (F := Ideal) x1 (ix2 (row b n) e) = x1 (ix3 b n e) := by
  rw [val_main_v258_apply]
  refine congrArg x1 (funext fun a => Fin.ext ?_)
  match a with
  | ⟨0, _⟩ =>
    show ((b.val * 65536 + n.val) * 2 + e.val) / 131072 = b.val
    omega
  | ⟨1, _⟩ =>
    show ((b.val * 65536 + n.val) * 2 + e.val) / 2 % 65536 = n.val
    omega
  | ⟨2, _⟩ =>
    show ((b.val * 65536 + n.val) * 2 + e.val) % 2 = e.val
    omega

/-- The first hidden layer at a row. -/
theorem layer1 (b : Fin 4) (n : Fin 65536) (k : Fin 32) :
    val_main_v263 (F := Ideal) x1 x24 x25 (ix2 (row b n) k) = hidden1 x24 x25 (fun e => x1 (ix3 b n e)) k := by
  rw [val_main_v263_apply, val_main_v262_apply, val_main_v259_apply, val_main_v261_apply, val_main_v260_apply,
    val_main_call25_v0_apply]
  have hz : val_main_call25_cst (F := Ideal) (idx_main_call25_v0 (ix2 (row b n) k)) = (0 : EReal) :=
    Literals.zero.trans EReal.coe_zero
  have hb : idx_main_v260 (idx_main_v261 (ix2 (row b n) k)) = ix1 k := by
    funext a
    match a with
    | ⟨0, _⟩ => rfl
  rw [hz, hb]
  refine congrArg (fun s : EReal => max (s + x25 (ix1 k)) 0) (Finset.sum_congr rfl fun e _ => ?_)
  have hl : lidx_main_v259 (ix2 (row b n) k) e = ix2 (row b n) e := by
    funext a
    match a with
    | ⟨0, _⟩ => rfl
    | ⟨1, _⟩ => rfl
  have hr : ridx_main_v259 (ix2 (row b n) k) e = ix2 e k := by
    funext a
    match a with
    | ⟨0, _⟩ => rfl
    | ⟨1, _⟩ => rfl
  rw [hl, hr, particle_row]

/-- The second hidden layer at a row. -/
theorem layer2 (b : Fin 4) (n : Fin 65536) (j : Fin 64) :
    val_main_v268 (F := Ideal) x1 x24 x25 x26 x27 (ix2 (row b n) j)
      = hidden2 x26 x27 (hidden1 x24 x25 (fun e => x1 (ix3 b n e))) j := by
  rw [val_main_v268_apply, val_main_v267_apply, val_main_v264_apply, val_main_v266_apply, val_main_v265_apply,
    val_main_call26_v0_apply]
  have hz : val_main_call26_cst (F := Ideal) (idx_main_call26_v0 (ix2 (row b n) j)) = (0 : EReal) :=
    Literals.zero.trans EReal.coe_zero
  have hb : idx_main_v265 (idx_main_v266 (ix2 (row b n) j)) = ix1 j := by
    funext a
    match a with
    | ⟨0, _⟩ => rfl
  rw [hz, hb]
  refine congrArg (fun s : EReal => max (s + x27 (ix1 j)) 0) (Finset.sum_congr rfl fun k _ => ?_)
  have hl : lidx_main_v264 (ix2 (row b n) j) k = ix2 (row b n) k := by
    funext a
    match a with
    | ⟨0, _⟩ => rfl
    | ⟨1, _⟩ => rfl
  have hr : ridx_main_v264 (ix2 (row b n) j) k = ix2 k j := by
    funext a
    match a with
    | ⟨0, _⟩ => rfl
    | ⟨1, _⟩ => rfl
  rw [hl, hr, layer1]

/-- The bounded step at a row. -/
theorem layer3 (b : Fin 4) (n : Fin 65536) (d : Fin 2) :
    val_main_v273 (F := Ideal) x1 x24 x25 x26 x27 x28 x29 (ix2 (row b n) d)
      = step x28 x29 (hidden2 x26 x27 (hidden1 x24 x25 (fun e => x1 (ix3 b n e)))) d := by
  rw [val_main_v273_apply, val_main_v272_apply, val_main_v269_apply, val_main_v271_apply, val_main_v270_apply]
  have hb : idx_main_v270 (idx_main_v271 (ix2 (row b n) d)) = ix1 d := by
    funext a
    match a with
    | ⟨0, _⟩ => rfl
  rw [hb]
  refine congrArg (fun s : EReal => Ideal.tanh (s + x29 (ix1 d))) (Finset.sum_congr rfl fun j _ => ?_)
  have hl : lidx_main_v269 (ix2 (row b n) d) j = ix2 (row b n) j := by
    funext a
    match a with
    | ⟨0, _⟩ => rfl
    | ⟨1, _⟩ => rfl
  have hr : ridx_main_v269 (ix2 (row b n) d) j = ix2 j d := by
    funext a
    match a with
    | ⟨0, _⟩ => rfl
    | ⟨1, _⟩ => rfl
  rw [hl, hr, layer2]

/-- The propagated particles: each is the particle function of its own coordinates. -/
theorem propagated (b : Fin 4) (n : Fin 65536) (d : Fin 2) :
    val_main_v275 (F := Ideal) x1 x24 x25 x26 x27 x28 x29 (ix3 b n d)
      = moved x24 x25 x26 x27 x28 x29 (fun e => x1 (ix3 b n e)) d := by
  rw [val_main_v275_apply, val_main_v274_apply]
  have hi : idx_main_v274 (ix3 b n d) = ix2 (row b n) d := by
    funext a
    refine Fin.ext ?_
    match a with
    | ⟨0, _⟩ =>
      show ((b.val * 65536 + n.val) * 2 + d.val) / 2 = b.val * 65536 + n.val
      omega
    | ⟨1, _⟩ =>
      show ((b.val * 65536 + n.val) * 2 + d.val) % 2 = d.val
      omega
  rw [hi, layer3]
  rfl

end Cert.ReferenceIdeal.ProcessModel

end
-- ==== Proof.Precondition.lean ====
/- What the precondition says: every weight and bias of the dense layers of the sensor model is a real number. -/
module

public import proofs.«01_k».proof.Pre_dense_finite
public import proofs.«01_k».proof.Proof.Finite
public import Idealize.ShloMosaic.Lib.Pipeline.ValueKit

@[expose] public section

noncomputable section

namespace Cert.Pre_dense_finite

open Idealize.ShloMosaic Facts

/-- The side conditions the precondition's operations state. -/
instance facts : Facts where
  bcast_S_S24576x1024 := by decide
  bcast_S_S1024 := by decide
  bcast_S1024_S1x1024_1 := by decide
  bcast_S1x1024_S24576x1024_0_1 := by decide
  bcast_S_S1024x512 := by decide
  bcast_S_S512 := by decide
  bcast_S512_S1x512_1 := by decide
  bcast_S1x512_S1024x512_0_1 := by decide
  bcast_S_S512x128 := by decide
  bcast_S_S128 := by decide
  bcast_S128_S1x128_1 := by decide
  bcast_S1x128_S512x128_0_1 := by decide
  bcast_S_S128x128 := by decide
  bcast_S1x128_S128x128_0_1 := by decide
  bcast_S_S128x32 := by decide
  bcast_S_S32 := by decide
  bcast_S32_S1x32_1 := by decide
  bcast_S1x32_S128x32_0_1 := by decide
  bcast_S_S32x1 := by decide
  bcast_S_S1 := by decide
  bcast_S1_S1x1_1 := by decide
  bcast_S1x1_S32x1_0_1 := by decide

section
variable {S : Shape}

/-- The bit of each entry: whether its absolute value lies below infinity. -/
def bits (h : (⟨0, ![]⟩ : Shape).BroadcastsInDim S ![]) (x : FVec Ideal S .f32) : IVec S 1 :=
  cmpf .olt (Host.absf x) (broadcastInDim S ![] h (constant ⟨0, ![]⟩ .f32 0x7F800000#32))

/-- The literal for infinity is the top of the extended real numbers. -/
theorem infinity : Ideal.ofBits .f32 0x7F800000#32 = (⊤ : EReal) := by
  simp [Ideal.ofBits, Ideal.ieee]

/-- An entry whose bit is one is a real number. -/
theorem real_of_bit (h : (⟨0, ![]⟩ : Shape).BroadcastsInDim S ![]) (x : FVec Ideal S .f32) (i : S.Idx) (hx : bits h x i = 1#1) :
    ∃ r : ℝ, x i = (r : EReal) := by
  have hlt : (max (x i) (-(x i)) : EReal) < ⊤ := by
    by_contra hn
    have h0 : bits h x i = BitVec.ofBool (decide ((max (x i) (-(x i)) : EReal) < ⊤)) := by
      rw [← infinity]
      rfl
    rw [h0, decide_eq_false hn] at hx
    exact absurd hx (by decide)
  induction hv : x i using EReal.rec with
  | bot => rw [hv] at hlt; simp at hlt
  | top => rw [hv] at hlt; simp at hlt
  | coe r => exact ⟨r, rfl⟩

/-- If a conjunction of two bits is one, both are. -/
theorem both {p q : BitVec 1} (h : p &&& q = 1#1) : p = 1#1 ∧ q = 1#1 := by
  revert p q
  decide

/-- A row of bits repeated along one leading axis and joined to an array's bits. -/
theorem real_of_joined2 {a n : ℕ} (ha : 0 < a)
    {h : (⟨0, ![]⟩ : Shape).BroadcastsInDim ⟨2, ![a, n]⟩ ![]} {h' : (⟨0, ![]⟩ : Shape).BroadcastsInDim ⟨1, ![n]⟩ ![]}
    {h1 : (⟨1, ![n]⟩ : Shape).BroadcastsInDim ⟨2, ![1, n]⟩ ![1]}
    {h2 : (⟨2, ![1, n]⟩ : Shape).BroadcastsInDim ⟨2, ![a, n]⟩ ![0, 1]}
    {x : FVec Ideal ⟨2, ![a, n]⟩ .f32} {y : FVec Ideal ⟨1, ![n]⟩ .f32}
    (hx : andi (bits h x) (broadcastInDim ⟨2, ![a, n]⟩ ![0, 1] h2
      (broadcastInDim ⟨2, ![1, n]⟩ ![1] h1 (bits h' y))) = fun _ => 1#1) : Finite.AllReal x ∧ Finite.AllReal y := by
  refine ⟨fun i => real_of_bit h x i (both (congrFun hx i)).1, fun i => real_of_bit h' y i ?_⟩
  have hj := (both (congrFun hx (ix2 ⟨0, ha⟩ (i 0)))).2
  rw [← hj]
  refine congrArg (bits h' y) (funext fun e => Fin.ext ?_)
  match e with
  | ⟨0, _⟩ =>
    have hi : (i 0).val < n := (i 0).isLt
    by_cases hn : n = 1
    · subst hn
      show (i 0).val = 0
      omega
    · simp [hn, ix2]
      rfl

end

variable {x0 : FVec Ideal S4x224x224x3 .f32}
variable {x1 : FVec Ideal S4x65536x2 .f32}
variable {x2 : FVec Ideal S7x7x3x128 .f32}
variable {x3 : FVec Ideal S128 .f32}
variable {x4 : FVec Ideal S5x5x128x128 .f32}
variable {x5 : FVec Ideal S128 .f32}
variable {x6 : FVec Ideal S3x3x128x256 .f32}
variable {x7 : FVec Ideal S256 .f32}
variable {x8 : FVec Ideal S3x3x256x256 .f32}
variable {x9 : FVec Ideal S256 .f32}
variable {x10 : FVec Ideal S3x3x256x512 .f32}
variable {x11 : FVec Ideal S512 .f32}
variable {x12 : FVec Ideal S24576x1024 .f32}
variable {x13 : FVec Ideal S1024 .f32}
variable {x14 : FVec Ideal S1024x512 .f32}
variable {x15 : FVec Ideal S512 .f32}
variable {x16 : FVec Ideal S512x128 .f32}
variable {x17 : FVec Ideal S128 .f32}
variable {x18 : FVec Ideal S128x128 .f32}
variable {x19 : FVec Ideal S128 .f32}
variable {x20 : FVec Ideal S128x32 .f32}
variable {x21 : FVec Ideal S32 .f32}
variable {x22 : FVec Ideal S32x1 .f32}
variable {x23 : FVec Ideal S1 .f32}
variable {x24 : FVec Ideal S2x32 .f32}
variable {x25 : FVec Ideal S32 .f32}
variable {x26 : FVec Ideal S32x64 .f32}
variable {x27 : FVec Ideal S64 .f32}
variable {x28 : FVec Ideal S64x2 .f32}
variable {x29 : FVec Ideal S2 .f32}

/-- What the precondition says of the arrays, one part per result, put as the precondition states it. -/
def Holds (x0 : FVec Ideal S4x224x224x3 .f32) (x1 : FVec Ideal S4x65536x2 .f32) (x2 : FVec Ideal S7x7x3x128 .f32) (x3 : FVec Ideal S128 .f32) (x4 : FVec Ideal S5x5x128x128 .f32) (x5 : FVec Ideal S128 .f32) (x6 : FVec Ideal S3x3x128x256 .f32) (x7 : FVec Ideal S256 .f32) (x8 : FVec Ideal S3x3x256x256 .f32) (x9 : FVec Ideal S256 .f32) (x10 : FVec Ideal S3x3x256x512 .f32) (x11 : FVec Ideal S512 .f32) (x12 : FVec Ideal S24576x1024 .f32) (x13 : FVec Ideal S1024 .f32) (x14 : FVec Ideal S1024x512 .f32) (x15 : FVec Ideal S512 .f32) (x16 : FVec Ideal S512x128 .f32) (x17 : FVec Ideal S128 .f32) (x18 : FVec Ideal S128x128 .f32) (x19 : FVec Ideal S128 .f32) (x20 : FVec Ideal S128x32 .f32) (x21 : FVec Ideal S32 .f32) (x22 : FVec Ideal S32x1 .f32) (x23 : FVec Ideal S1 .f32) (x24 : FVec Ideal S2x32 .f32) (x25 : FVec Ideal S32 .f32) (x26 : FVec Ideal S32x64 .f32) (x27 : FVec Ideal S64 .f32) (x28 : FVec Ideal S64x2 .f32) (x29 : FVec Ideal S2 .f32) : Prop :=
  (fn (F := Ideal) x0 x1 x2 x3 x4 x5 x6 x7 x8 x9 x10 x11 x12 x13 x14 x15 x16 x17 x18 x19 x20 x21 x22 x23 x24 x25 x26 x27 x28 x29).1 = (fun _ => 1#1) ∧
  (fn (F := Ideal) x0 x1 x2 x3 x4 x5 x6 x7 x8 x9 x10 x11 x12 x13 x14 x15 x16 x17 x18 x19 x20 x21 x22 x23 x24 x25 x26 x27 x28 x29).2.1 = (fun _ => 1#1) ∧
  (fn (F := Ideal) x0 x1 x2 x3 x4 x5 x6 x7 x8 x9 x10 x11 x12 x13 x14 x15 x16 x17 x18 x19 x20 x21 x22 x23 x24 x25 x26 x27 x28 x29).2.2.1 = (fun _ => 1#1) ∧
  (fn (F := Ideal) x0 x1 x2 x3 x4 x5 x6 x7 x8 x9 x10 x11 x12 x13 x14 x15 x16 x17 x18 x19 x20 x21 x22 x23 x24 x25 x26 x27 x28 x29).2.2.2.1 = (fun _ => 1#1) ∧
  (fn (F := Ideal) x0 x1 x2 x3 x4 x5 x6 x7 x8 x9 x10 x11 x12 x13 x14 x15 x16 x17 x18 x19 x20 x21 x22 x23 x24 x25 x26 x27 x28 x29).2.2.2.2.1 = (fun _ => 1#1) ∧
  (fn (F := Ideal) x0 x1 x2 x3 x4 x5 x6 x7 x8 x9 x10 x11 x12 x13 x14 x15 x16 x17 x18 x19 x20 x21 x22 x23 x24 x25 x26 x27 x28 x29).2.2.2.2.2 = fun _ => 1#1

/-- The first dense layer's weights and biases are real. -/
theorem fc1_real (h : Holds x0 x1 x2 x3 x4 x5 x6 x7 x8 x9 x10 x11 x12 x13 x14 x15 x16 x17 x18 x19 x20 x21 x22 x23 x24 x25 x26 x27 x28 x29) : Finite.AllReal x12 ∧ Finite.AllReal x13 :=
  real_of_joined2 (by decide) (h := bcast_S_S24576x1024) (h' := bcast_S_S1024) (h1 := bcast_S1024_S1x1024_1)
    (h2 := bcast_S1x1024_S24576x1024_0_1) h.1

/-- The second dense layer's weights and biases are real. -/
theorem fc2_real (h : Holds x0 x1 x2 x3 x4 x5 x6 x7 x8 x9 x10 x11 x12 x13 x14 x15 x16 x17 x18 x19 x20 x21 x22 x23 x24 x25 x26 x27 x28 x29) : Finite.AllReal x14 ∧ Finite.AllReal x15 :=
  real_of_joined2 (by decide) (h := bcast_S_S1024x512) (h' := bcast_S_S512) (h1 := bcast_S512_S1x512_1)
    (h2 := bcast_S1x512_S1024x512_0_1) (h.2.1)

/-- The third dense layer's weights and biases are real. -/
theorem fc3_real (h : Holds x0 x1 x2 x3 x4 x5 x6 x7 x8 x9 x10 x11 x12 x13 x14 x15 x16 x17 x18 x19 x20 x21 x22 x23 x24 x25 x26 x27 x28 x29) : Finite.AllReal x16 ∧ Finite.AllReal x17 :=
  real_of_joined2 (by decide) (h := bcast_S_S512x128) (h' := bcast_S_S128) (h1 := bcast_S128_S1x128_1)
    (h2 := bcast_S1x128_S512x128_0_1) (h.2.2.1)

/-- The likelihood's first layer's weights and biases are real. -/
theorem like1_real (h : Holds x0 x1 x2 x3 x4 x5 x6 x7 x8 x9 x10 x11 x12 x13 x14 x15 x16 x17 x18 x19 x20 x21 x22 x23 x24 x25 x26 x27 x28 x29) : Finite.AllReal x18 ∧ Finite.AllReal x19 :=
  real_of_joined2 (by decide) (h := bcast_S_S128x128) (h' := bcast_S_S128) (h1 := bcast_S128_S1x128_1)
    (h2 := bcast_S1x128_S128x128_0_1) (h.2.2.2.1)

/-- The likelihood's second layer's weights and biases are real. -/
theorem like2_real (h : Holds x0 x1 x2 x3 x4 x5 x6 x7 x8 x9 x10 x11 x12 x13 x14 x15 x16 x17 x18 x19 x20 x21 x22 x23 x24 x25 x26 x27 x28 x29) : Finite.AllReal x20 ∧ Finite.AllReal x21 :=
  real_of_joined2 (by decide) (h := bcast_S_S128x32) (h' := bcast_S_S32) (h1 := bcast_S32_S1x32_1)
    (h2 := bcast_S1x32_S128x32_0_1) (h.2.2.2.2.1)

/-- The likelihood's last layer's weights and biases are real. -/
theorem like3_real (h : Holds x0 x1 x2 x3 x4 x5 x6 x7 x8 x9 x10 x11 x12 x13 x14 x15 x16 x17 x18 x19 x20 x21 x22 x23 x24 x25 x26 x27 x28 x29) : Finite.AllReal x22 ∧ Finite.AllReal x23 :=
  real_of_joined2 (by decide) (h := bcast_S_S32x1) (h' := bcast_S_S1) (h1 := bcast_S1_S1x1_1)
    (h2 := bcast_S1x1_S32x1_0_1) (h.2.2.2.2.2)

end Cert.Pre_dense_finite

end
-- ==== Proof.KernelBlock.lean ====
/- What one grid point of the kernel computes: its payload read at an index, as the particle function of the block's column. -/
module

public import proofs.«01_k».proof.Defs
public import proofs.«01_k».proof.Proof.Gen.KernelIdeal.Frame
public import proofs.«01_k».proof.Proof.Particle

@[expose] public section

set_option maxRecDepth 16384

noncomputable section

namespace Cert.KernelIdeal.Block

open Cert.KernelIdeal Cert.KernelIdeal.Gen Idealize.ShloMosaic Cert.Particle

/-- The payload at row `d`, column `p`: the particle in column `p` moved, where the weights that the block holds are the
    transposed arrays of the process model, the second layer's bias being the last column beside its weights. -/
theorem pay_apply (v0 : Vec Ideal S2x131072 .f32) (v3 v8 v13 : Vec Ideal S32x1 .f32) (v23 : Vec Ideal S64x33 .f32)
    (v28 : Vec Ideal S2x64 .f32) (v31 : Vec Ideal S2x1 .f32)
    (w1 : FVec Ideal ⟨2, ![2, 32]⟩ .f32) (b1 : FVec Ideal ⟨1, ![32]⟩ .f32) (w2 : FVec Ideal ⟨2, ![32, 64]⟩ .f32)
    (b2 : FVec Ideal ⟨1, ![64]⟩ .f32) (w3 : FVec Ideal ⟨2, ![64, 2]⟩ .f32) (b3 : FVec Ideal ⟨1, ![2]⟩ .f32)
    (h13 : ∀ k, v13 (ix2 k 0) = w1 (ix2 0 k)) (h3 : ∀ k, v3 (ix2 k 0) = w1 (ix2 1 k)) (h8 : ∀ k, v8 (ix2 k 0) = b1 (ix1 k))
    (h23 : ∀ (j : Fin 64) (k : Fin 32) (hk : k.val < 33), v23 (ix2 j ⟨k.val, hk⟩) = w2 (ix2 k j))
    (h23b : ∀ j : Fin 64, v23 (ix2 j 32) = b2 (ix1 j))
    (h28 : ∀ (d : Fin 2) (j : Fin 64), v28 (ix2 d j) = w3 (ix2 j d)) (h31 : ∀ d : Fin 2, v31 (ix2 d 0) = b3 (ix1 d))
    (y : S2x131072.Idx) :
    k0_pay1 v0 v3 v8 v13 v23 v28 v31 y = moved w1 b1 w2 b2 w3 b3 (fun e => v0 (ix2 e (y 1))) (y 0) := by
  unfold k0_pay1 moved step hidden2 hidden1
  pointwise
  simp only [h13, h3, h8, h23, h23b, h28, h31, Fin.sum_univ_two, Finset.univ_unique, Finset.sum_singleton, add_assoc]
  have e : v0 y = v0 (ix2 (y 0) (y 1)) := by congr 1; funext a; match a with | ⟨0, _⟩ => rfl | ⟨1, _⟩ => rfl
  rw [e]
  refine congrArg₂ (· + ·) rfl (congrArg Ideal.tanh (congrArg₂ (· + ·) (Finset.sum_congr rfl fun j _ => ?_) (h31 (y 0))))
  refine (congrArg₂ (· * ·) (h28 (y 0) j) ?_).trans (mul_comm _ _)
  exact congrArg (fun z => max (z + _) 0) (Finset.sum_congr rfl fun k _ => mul_comm _ _)

end Cert.KernelIdeal.Block

end
-- ==== Proof.KernelArray.lean ====
/- What the kernel's result array holds after the grid: every column the particle function of that column. -/
module

public import proofs.«01_k».proof.Proof.KernelBlock
public import Idealize.ShloMosaic.Lib.StableHlo.ReadAt

@[expose] public section

set_option maxRecDepth 16384

noncomputable section

namespace Cert.KernelIdeal.Block

open Cert.KernelIdeal Cert.KernelIdeal.Gen Idealize.ShloMosaic Idealize.ShloMosaic.TcCoe Idealize.ShloMosaic.Pipeline Cert.Particle

variable (m : (ℓ : Loc nD τ sig) → Buf (Elt Ideal) ℓ)

/-- The transposed particles as the region finds them: column `p` is particle `p % 65536` of batch `p / 65536`. -/
theorem entry_particles (c : Dev nD) (e : Fin 2) (p : Fin 262144) :
    V m c main_v1 (ix2 e p) = m (c, Proc.tc.devRef main_arg1) (ix3 ⟨p.val / 65536, by omega⟩ ⟨p.val % 65536, by omega⟩ e) := by
  unfold V V0
  after_reads_at

/-- The first layer's weights, transposed. -/
theorem entry_w1 (c : Dev nD) (k : Fin 32) (e : Fin 2) :
    V m c main_v2 (ix2 k e) = m (c, Proc.tc.devRef main_arg24) (ix2 e k) := by
  unfold V V0
  after_reads_at

/-- The first layer's bias as a column. -/
theorem entry_b1 (c : Dev nD) (k : Fin 32) :
    V m c main_v3 (ix2 k 0) = m (c, Proc.tc.devRef main_arg25) (ix1 k) := by
  unfold V V0
  after_reads_at

/-- The second layer's weights, transposed, in the first 32 columns. -/
theorem entry_w2 (c : Dev nD) (j : Fin 64) (k : Fin 32) (hk : k.val < 33) :
    V m c main_v6 (ix2 j ⟨k.val, hk⟩) = m (c, Proc.tc.devRef main_arg26) (ix2 k j) := by
  unfold V V0
  after_reads_at

/-- The second layer's bias in the last column. -/
theorem entry_b2 (c : Dev nD) (j : Fin 64) :
    V m c main_v6 (ix2 j 32) = m (c, Proc.tc.devRef main_arg27) (ix1 j) := by
  unfold V V0
  after_reads_at

/-- The third layer's weights, transposed. -/
theorem entry_w3 (c : Dev nD) (d : Fin 2) (j : Fin 64) :
    V m c main_v7 (ix2 d j) = m (c, Proc.tc.devRef main_arg28) (ix2 j d) := by
  unfold V V0
  after_reads_at

/-- The third layer's bias as a column. -/
theorem entry_b3 (c : Dev nD) (d : Fin 2) :
    V m c main_v8 (ix2 d 0) = m (c, Proc.tc.devRef main_arg29) (ix1 d) := by
  unfold V V0
  after_reads_at

/-- The array of moved particles, transposed as the kernel writes it. -/
def movedT (c : Dev nD) : S2x262144.Idx → EReal := fun i =>
  moved (m (c, Proc.tc.devRef main_arg24)) (m (c, Proc.tc.devRef main_arg25)) (m (c, Proc.tc.devRef main_arg26))
    (m (c, Proc.tc.devRef main_arg27)) (m (c, Proc.tc.devRef main_arg28)) (m (c, Proc.tc.devRef main_arg29))
    (fun e => V m c main_v1 (ix2 e (i 1))) (i 0)

/-- The block of every window at a grid point: the particles' and the result's blocks are the point's columns, the others
    are the whole arrays. -/
theorem index_maps : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, t.val] := by
  decide +kernel

/-- The block of the particles' window at a grid point, read at a column: the column of the whole array. -/
theorem particles_block (c : Dev nD) (t : Fin cfg0.N) (e : Fin 2) (p : Fin 131072) (q : Fin 262144)
    (hq : q.val = t.val * 131072 + p.val) : iblk m c 0 t (ix2 e p) = V m c main_v1 (ix2 e q) := by
  have i0 := (index_maps t).1
  have hemb : ((win0_0.rect t).emb (ix2 e p) : S2x262144.Idx) = ix2 e q := by
    blk_ext [i0]
    · show 0 * 2 + e.val = e.val
      omega
    · exact hq.symm
  unfold iblk
  exact congrArg (V m c main_v1) hemb

set_option maxHeartbeats 1600000 in
/-- After the last grid point the result array holds the moved particles. -/
theorem result_array (c : Dev nD) : (Gen.dats m 0 c).arrAt 6 cfg0.N = movedT m c := by
  refine (dats m 0 c).arrAt_eq_of_covers 6 _ (by decide +kernel) fun t hf y => ?_
  blk_simp
  rw [after0_6]
  frame_out
  obtain ⟨i0, i1, i2, i3, i4, i5, i6⟩ := index_maps t
  have hemb : ((win0_6.rect t).emb y : S2x262144.Idx) = ix2 ⟨(y 0).val, (y 0).isLt⟩ ⟨t.val * 131072 + (y 1).val, by have := t.isLt; have : (y 1).val < 131072 := (y 1).isLt; have : cfg0.grid.N = 2 := N_0; omega⟩ := by
    blk_ext [i6]
    show 0 * 2 + (y 0).val = (y 0).val
    omega
  refine (pay_apply _ _ _ _ _ _ _ (m (c, Proc.tc.devRef main_arg24)) (m (c, Proc.tc.devRef main_arg25)) (m (c, Proc.tc.devRef main_arg26))
    (m (c, Proc.tc.devRef main_arg27)) (m (c, Proc.tc.devRef main_arg28)) (m (c, Proc.tc.devRef main_arg29)) ?_ ?_ ?_ ?_ ?_ ?_ ?_ y).trans ?_
  · intro k
    refine (View.ld_unit_apply_of _ _ _ _ _ (ix2 k 0) (fun a => match a with | ⟨0, _⟩ => (Nat.zero_add _).symm | ⟨1, _⟩ => rfl)).trans
      (Eq.trans ?_ (entry_w1 m c k 0))
    blk_ext [iblk, i1]
  · intro k
    refine (View.ld_unit_apply_of _ _ _ _ _ (ix2 k 1) (fun a => match a with | ⟨0, _⟩ => (Nat.zero_add _).symm | ⟨1, _⟩ => rfl)).trans
      (Eq.trans ?_ (entry_w1 m c k 1))
    blk_ext [iblk, i1]
  · intro k
    refine Eq.trans ?_ (entry_b1 m c k)
    blk_ext [iblk, i2]
  · intro j k hk
    refine Eq.trans ?_ (entry_w2 m c j k hk)
    blk_ext [iblk, i3]
  · intro j
    refine Eq.trans ?_ (entry_b2 m c j)
    blk_ext [iblk, i3]
  · intro d j
    refine Eq.trans ?_ (entry_w3 m c d j)
    blk_ext [iblk, i4]
  · intro d
    refine Eq.trans ?_ (entry_b3 m c d)
    blk_ext [iblk, i5]
  · refine Eq.trans ?_ (congrArg (movedT m c) hemb).symm
    unfold movedT
    refine congrArg (fun x => moved _ _ _ _ _ _ x (y 0)) (funext fun e => ?_)
    exact particles_block m c t e (y 1) _ rfl

end Cert.KernelIdeal.Block

end
-- ==== Proof.KernelResult.lean ====
/- The kernel's result, read one particle at a time: it is the particle function. -/
module

public import proofs.«01_k».proof.Proof.KernelArray
public import proofs.«01_k».proof.Proof.Gen.KernelIdeal.Run

@[expose] public section

set_option maxRecDepth 16384

noncomputable section

namespace Cert.KernelIdeal.Block

open Cert.KernelIdeal Cert.KernelIdeal.Gen Idealize.ShloMosaic Idealize.ShloMosaic.TcCoe Idealize.ShloMosaic.Pipeline Cert.Particle

variable (m : (ℓ : Loc nD τ sig) → Buf (Elt Ideal) ℓ)

/-- The array the kernel returns: the grid's result turned back to one particle per row and cut into batches. -/
def result (c : Dev nD) : S4x65536x2.Idx → EReal :=
  shapeCast _ (transpose S262144x2 [1, 0] (Value.reg_main_v9 m c) transposes_S2x262144_S262144x2_1_0)
    shapeCasts_S262144x2_S4x65536x2

/-- Each particle of it is the particle function of that particle's own coordinates. -/
theorem result_particle (c : Dev nD) (b : Fin 4) (n : Fin 65536) (d : Fin 2) :
    result m c (ix3 b n d) = moved (m (c, Proc.tc.devRef main_arg24)) (m (c, Proc.tc.devRef main_arg25))
      (m (c, Proc.tc.devRef main_arg26)) (m (c, Proc.tc.devRef main_arg27)) (m (c, Proc.tc.devRef main_arg28))
      (m (c, Proc.tc.devRef main_arg29)) (fun e => m (c, Proc.tc.devRef main_arg1) (ix3 b n e)) d := by
  have hp : b.val * 65536 + n.val < 262144 := by omega
  have hr : result m c (ix3 b n d) = Value.reg_main_v9 m c (ix2 d ⟨b.val * 65536 + n.val, hp⟩) := by
    refine (shapeCast_apply _ shapeCasts_S262144x2_S4x65536x2 (ix3 b n d) (ix2 ⟨b.val * 65536 + n.val, hp⟩ d) ?_).trans ?_
    · rw [Shape.rowMajor_val_three, Shape.rowMajor_val_two]
      rfl
    · refine congrArg (Value.reg_main_v9 m c) (funext fun a => Fin.ext ?_)
      match a with
      | ⟨0, _⟩ => rfl
      | ⟨1, _⟩ => rfl
  rw [hr]
  refine (congrFun (result_array m c) _).trans ?_
  refine congrArg (fun x => moved _ _ _ _ _ _ x d) (funext fun e => (entry_particles m c e _).trans ?_)
  refine congrArg (m (c, Proc.tc.devRef main_arg1)) (funext fun a => Fin.ext ?_)
  match a with
  | ⟨0, _⟩ =>
    show (b.val * 65536 + n.val) / 65536 = b.val
    omega
  | ⟨1, _⟩ =>
    show (b.val * 65536 + n.val) % 65536 = n.val
    omega
  | ⟨2, _⟩ => rfl

end Cert.KernelIdeal.Block

end
-- ==== Proof.Equation.lean ====
/- The equation: under the precondition the reference's result and the kernel's are the same array, each particle moved by its
   own step. -/
module

public import proofs.«01_k».proof.Proof.Batch
public import proofs.«01_k».proof.Proof.Resample
public import proofs.«01_k».proof.Proof.ProcessModel
public import proofs.«01_k».proof.Proof.Precondition
public import proofs.«01_k».proof.Proof.KernelResult

@[expose] public section

set_option maxRecDepth 16384

noncomputable section

namespace Cert.Equation

open Idealize.ShloMosaic Cert.ReferenceIdeal Cert.ReferenceIdeal.Read Cert.Particle

section
variable {x0 : FVec Ideal S4x224x224x3 .f32}
variable {x1 : FVec Ideal S4x65536x2 .f32}
variable {x2 : FVec Ideal S7x7x3x128 .f32}
variable {x3 : FVec Ideal S128 .f32}
variable {x4 : FVec Ideal S5x5x128x128 .f32}
variable {x5 : FVec Ideal S128 .f32}
variable {x6 : FVec Ideal S3x3x128x256 .f32}
variable {x7 : FVec Ideal S256 .f32}
variable {x8 : FVec Ideal S3x3x256x256 .f32}
variable {x9 : FVec Ideal S256 .f32}
variable {x10 : FVec Ideal S3x3x256x512 .f32}
variable {x11 : FVec Ideal S512 .f32}
variable {x12 : FVec Ideal S24576x1024 .f32}
variable {x13 : FVec Ideal S1024 .f32}
variable {x14 : FVec Ideal S1024x512 .f32}
variable {x15 : FVec Ideal S512 .f32}
variable {x16 : FVec Ideal S512x128 .f32}
variable {x17 : FVec Ideal S128 .f32}
variable {x18 : FVec Ideal S128x128 .f32}
variable {x19 : FVec Ideal S128 .f32}
variable {x20 : FVec Ideal S128x32 .f32}
variable {x21 : FVec Ideal S32 .f32}
variable {x22 : FVec Ideal S32x1 .f32}
variable {x23 : FVec Ideal S1 .f32}
variable {x24 : FVec Ideal S2x32 .f32}
variable {x25 : FVec Ideal S32 .f32}
variable {x26 : FVec Ideal S32x64 .f32}
variable {x27 : FVec Ideal S64 .f32}
variable {x28 : FVec Ideal S64x2 .f32}
variable {x29 : FVec Ideal S2 .f32}

/-- Under the precondition every batch has one positive likelihood. -/
theorem one_likelihood (h : Pre_dense_finite.Holds x0 x1 x2 x3 x4 x5 x6 x7 x8 x9 x10 x11 x12 x13 x14 x15 x16 x17 x18 x19 x20 x21 x22 x23 x24 x25 x26 x27 x28 x29) :
    Resample.OneLikelihood (val_main_v253 (F := Ideal) x0 x2 x3 x4 x5 x6 x7 x8 x9 x10 x11 x12 x13 x14 x15 x16 x17 x18 x19 x20 x21 x22 x23) := fun b =>
  Sensor.likelihood_row (Pre_dense_finite.fc1_real h).1 (Pre_dense_finite.fc1_real h).2 (Pre_dense_finite.fc2_real h).1 (Pre_dense_finite.fc2_real h).2 (Pre_dense_finite.fc3_real h).1 (Pre_dense_finite.fc3_real h).2 (Pre_dense_finite.like1_real h).1 (Pre_dense_finite.like1_real h).2 (Pre_dense_finite.like2_real h).1 (Pre_dense_finite.like2_real h).2 (Pre_dense_finite.like3_real h).1 (Pre_dense_finite.like3_real h).2 b

/-- Under the precondition each particle of the reference's result is the particle function of its own coordinates. -/
theorem reference_particle (h : Pre_dense_finite.Holds x0 x1 x2 x3 x4 x5 x6 x7 x8 x9 x10 x11 x12 x13 x14 x15 x16 x17 x18 x19 x20 x21 x22 x23 x24 x25 x26 x27 x28 x29)
    (b : Fin 4) (n : Fin 65536) (d : Fin 2) :
    val_main_v295 (F := Ideal) x0 x1 x2 x3 x4 x5 x6 x7 x8 x9 x10 x11 x12 x13 x14 x15 x16 x17 x18 x19 x20 x21 x22 x23 x24 x25 x26 x27 x28 x29 (ix3 b n d)
      = moved x24 x25 x26 x27 x28 x29 (fun e => x1 (ix3 b n e)) d :=
  (Resample.resampled (one_likelihood h) _ b n d).trans (ProcessModel.propagated b n d)

end

/-- An index of the result is its batch, its particle and its coordinate. -/
theorem index_parts (i : S4x65536x2.Idx) : i = ix3 (i 0) (i 1) (i 2) := by
  funext a
  match a with
  | ⟨0, _⟩ => rfl
  | ⟨1, _⟩ => rfl
  | ⟨2, _⟩ => rfl

/-- Under the precondition the reference, run on the kernel's arguments, gives the array the kernel returns. -/
theorem same_array (m : (ℓ : Loc KernelIdeal.nD KernelIdeal.τ KernelIdeal.sig) → Buf (Elt Ideal) ℓ) (c : Dev KernelIdeal.nD)
    (h : Pre_dense_finite.Holds (m (c, Proc.tc.devRef KernelIdeal.main_arg0)) (m (c, Proc.tc.devRef KernelIdeal.main_arg1)) (m (c, Proc.tc.devRef KernelIdeal.main_arg2)) (m (c, Proc.tc.devRef KernelIdeal.main_arg3)) (m (c, Proc.tc.devRef KernelIdeal.main_arg4)) (m (c, Proc.tc.devRef KernelIdeal.main_arg5)) (m (c, Proc.tc.devRef KernelIdeal.main_arg6)) (m (c, Proc.tc.devRef KernelIdeal.main_arg7)) (m (c, Proc.tc.devRef KernelIdeal.main_arg8)) (m (c, Proc.tc.devRef KernelIdeal.main_arg9)) (m (c, Proc.tc.devRef KernelIdeal.main_arg10)) (m (c, Proc.tc.devRef KernelIdeal.main_arg11)) (m (c, Proc.tc.devRef KernelIdeal.main_arg12)) (m (c, Proc.tc.devRef KernelIdeal.main_arg13)) (m (c, Proc.tc.devRef KernelIdeal.main_arg14)) (m (c, Proc.tc.devRef KernelIdeal.main_arg15)) (m (c, Proc.tc.devRef KernelIdeal.main_arg16)) (m (c, Proc.tc.devRef KernelIdeal.main_arg17)) (m (c, Proc.tc.devRef KernelIdeal.main_arg18)) (m (c, Proc.tc.devRef KernelIdeal.main_arg19)) (m (c, Proc.tc.devRef KernelIdeal.main_arg20)) (m (c, Proc.tc.devRef KernelIdeal.main_arg21)) (m (c, Proc.tc.devRef KernelIdeal.main_arg22)) (m (c, Proc.tc.devRef KernelIdeal.main_arg23)) (m (c, Proc.tc.devRef KernelIdeal.main_arg24)) (m (c, Proc.tc.devRef KernelIdeal.main_arg25)) (m (c, Proc.tc.devRef KernelIdeal.main_arg26)) (m (c, Proc.tc.devRef KernelIdeal.main_arg27)) (m (c, Proc.tc.devRef KernelIdeal.main_arg28)) (m (c, Proc.tc.devRef KernelIdeal.main_arg29))) :
    val_main_v295 (F := Ideal) (m (c, Proc.tc.devRef KernelIdeal.main_arg0)) (m (c, Proc.tc.devRef KernelIdeal.main_arg1)) (m (c, Proc.tc.devRef KernelIdeal.main_arg2)) (m (c, Proc.tc.devRef KernelIdeal.main_arg3)) (m (c, Proc.tc.devRef KernelIdeal.main_arg4)) (m (c, Proc.tc.devRef KernelIdeal.main_arg5)) (m (c, Proc.tc.devRef KernelIdeal.main_arg6)) (m (c, Proc.tc.devRef KernelIdeal.main_arg7)) (m (c, Proc.tc.devRef KernelIdeal.main_arg8)) (m (c, Proc.tc.devRef KernelIdeal.main_arg9)) (m (c, Proc.tc.devRef KernelIdeal.main_arg10)) (m (c, Proc.tc.devRef KernelIdeal.main_arg11)) (m (c, Proc.tc.devRef KernelIdeal.main_arg12)) (m (c, Proc.tc.devRef KernelIdeal.main_arg13)) (m (c, Proc.tc.devRef KernelIdeal.main_arg14)) (m (c, Proc.tc.devRef KernelIdeal.main_arg15)) (m (c, Proc.tc.devRef KernelIdeal.main_arg16)) (m (c, Proc.tc.devRef KernelIdeal.main_arg17)) (m (c, Proc.tc.devRef KernelIdeal.main_arg18)) (m (c, Proc.tc.devRef KernelIdeal.main_arg19)) (m (c, Proc.tc.devRef KernelIdeal.main_arg20)) (m (c, Proc.tc.devRef KernelIdeal.main_arg21)) (m (c, Proc.tc.devRef KernelIdeal.main_arg22)) (m (c, Proc.tc.devRef KernelIdeal.main_arg23)) (m (c, Proc.tc.devRef KernelIdeal.main_arg24)) (m (c, Proc.tc.devRef KernelIdeal.main_arg25)) (m (c, Proc.tc.devRef KernelIdeal.main_arg26)) (m (c, Proc.tc.devRef KernelIdeal.main_arg27)) (m (c, Proc.tc.devRef KernelIdeal.main_arg28)) (m (c, Proc.tc.devRef KernelIdeal.main_arg29))
      = KernelIdeal.Block.result m c := by
  funext i
  rw [index_parts i]
  exact (reference_particle h _ _ _).trans (KernelIdeal.Block.result_particle m c _ _ _).symm

end Cert.Equation

end
-- ==== Proof.lean ====
/- The certificate: what the launches leave alone, and the kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.StableHlo Idealize.SL.Sem

/-- The kernel at the machine's floats leaves its arguments as they were and every semaphore at zero. -/
theorem kernel_frame : Cert.quiescent_Kernel := fun m ρ _ => Cert.Kernel.Gen.frame m ρ

/-- The kernel over the extended reals leaves its arguments as they were and every semaphore at zero. -/
theorem ideal_frame : Cert.quiescent_KernelIdeal := fun m ρ _ => Cert.KernelIdeal.Gen.frame m ρ

/-- The same under the precondition. -/
theorem ideal_frame_pre : Cert.quiescent_KernelIdeal_pre_dense_finite := fun m ρ _ => Cert.KernelIdeal.Gen.frame m ρ

/-- The reference leaves its arguments as they were and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem reference_frame_pre : Cert.quiescent_ReferenceIdeal_pre_dense_finite := fun m ρ _ => reference_frame m ρ trivial

/-- Under the precondition, on the same arguments, the kernel and the reference return the same array. -/
theorem same_result : Cert.algebraic_KernelIdeal_ReferenceIdeal_pre_dense_finite := by
  intro m ρ m' ρ' hpre hagree
  refine ⟨fun c => Cert.KernelIdeal.Block.result m c, ?_, ?_⟩
  · exact Cert.KernelIdeal.Value.run (F := Ideal) m ρ
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v295_eq (launchContents m' c)).trans ?_)
    obtain ⟨a0, a1, a2, a3, a4, a5, a6, a7, a8, a9, a10, a11, a12, a13, a14, a15, a16, a17, a18, a19, a20, a21, a22, a23, a24, a25, a26, a27, a28, a29⟩ := hagree c
    rw [show launchContents m' c (Proc.devRef .tc Cert.ReferenceIdeal.main_arg0) = _ from a0,
      show launchContents m' c (Proc.devRef .tc Cert.ReferenceIdeal.main_arg1) = _ from a1,
      show launchContents m' c (Proc.devRef .tc Cert.ReferenceIdeal.main_arg2) = _ from a2,
      show launchContents m' c (Proc.devRef .tc Cert.ReferenceIdeal.main_arg3) = _ from a3,
      show launchContents m' c (Proc.devRef .tc Cert.ReferenceIdeal.main_arg4) = _ from a4,
      show launchContents m' c (Proc.devRef .tc Cert.ReferenceIdeal.main_arg5) = _ from a5,
      show launchContents m' c (Proc.devRef .tc Cert.ReferenceIdeal.main_arg6) = _ from a6,
      show launchContents m' c (Proc.devRef .tc Cert.ReferenceIdeal.main_arg7) = _ from a7,
      show launchContents m' c (Proc.devRef .tc Cert.ReferenceIdeal.main_arg8) = _ from a8,
      show launchContents m' c (Proc.devRef .tc Cert.ReferenceIdeal.main_arg9) = _ from a9,
      show launchContents m' c (Proc.devRef .tc Cert.ReferenceIdeal.main_arg10) = _ from a10,
      show launchContents m' c (Proc.devRef .tc Cert.ReferenceIdeal.main_arg11) = _ from a11,
      show launchContents m' c (Proc.devRef .tc Cert.ReferenceIdeal.main_arg12) = _ from a12,
      show launchContents m' c (Proc.devRef .tc Cert.ReferenceIdeal.main_arg13) = _ from a13,
      show launchContents m' c (Proc.devRef .tc Cert.ReferenceIdeal.main_arg14) = _ from a14,
      show launchContents m' c (Proc.devRef .tc Cert.ReferenceIdeal.main_arg15) = _ from a15,
      show launchContents m' c (Proc.devRef .tc Cert.ReferenceIdeal.main_arg16) = _ from a16,
      show launchContents m' c (Proc.devRef .tc Cert.ReferenceIdeal.main_arg17) = _ from a17,
      show launchContents m' c (Proc.devRef .tc Cert.ReferenceIdeal.main_arg18) = _ from a18,
      show launchContents m' c (Proc.devRef .tc Cert.ReferenceIdeal.main_arg19) = _ from a19,
      show launchContents m' c (Proc.devRef .tc Cert.ReferenceIdeal.main_arg20) = _ from a20,
      show launchContents m' c (Proc.devRef .tc Cert.ReferenceIdeal.main_arg21) = _ from a21,
      show launchContents m' c (Proc.devRef .tc Cert.ReferenceIdeal.main_arg22) = _ from a22,
      show launchContents m' c (Proc.devRef .tc Cert.ReferenceIdeal.main_arg23) = _ from a23,
      show launchContents m' c (Proc.devRef .tc Cert.ReferenceIdeal.main_arg24) = _ from a24,
      show launchContents m' c (Proc.devRef .tc Cert.ReferenceIdeal.main_arg25) = _ from a25,
      show launchContents m' c (Proc.devRef .tc Cert.ReferenceIdeal.main_arg26) = _ from a26,
      show launchContents m' c (Proc.devRef .tc Cert.ReferenceIdeal.main_arg27) = _ from a27,
      show launchContents m' c (Proc.devRef .tc Cert.ReferenceIdeal.main_arg28) = _ from a28,
      show launchContents m' c (Proc.devRef .tc Cert.ReferenceIdeal.main_arg29) = _ from a29]
    exact Cert.Equation.same_array m c (hpre c)

/-- The certificate's claims. -/
theorem claim : Cert.Claim :=
  ⟨Cert.Kernel.Gen.facts, Cert.KernelIdeal.Gen.facts, Cert.ReferenceIdeal.Gen.facts, Cert.Pre_dense_finite.facts,
    kernel_frame, ideal_frame, ideal_frame_pre, reference_frame, reference_frame_pre, trivial, same_result⟩

end Cert.Proof

end
